-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "scale" .f32 0x3DD105EC#32 (((Real.sqrt 96)⁻¹ : ℝ) : EReal)

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.blockN ⟨2, ![1024, 64]⟩ ⟨2, ![1024, 128]⟩ (Layout.meshBlock [2, 2] ![[], [0]] c) (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.blockN ⟨2, ![64, 1024]⟩ ⟨2, ![128, 1024]⟩ (Layout.meshBlock [2, 2] ![[0], []] c) (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.blockN ⟨2, ![64, 1024]⟩ ⟨2, ![128, 1024]⟩ (Layout.meshBlock [2, 2] ![[0], []] c) (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = m' (((0 : Dev Cert.ReferenceIdeal.nD).tc : Thread Cert.ReferenceIdeal.nD Cert.ReferenceIdeal.τ).loc Cert.ReferenceIdeal.main_arg4)
      ∧ m ((c.tc : Thread Cert.KernelIdeal.nD Cert.KernelIdeal.τ).loc Cert.KernelIdeal.main_arg5) = m' (((0 : Dev Cert.ReferenceIdeal.nD).tc : Thread Cert.ReferenceIdeal.nD Cert.ReferenceIdeal.τ).loc Cert.ReferenceIdeal.main_arg5)
      ∧ m ((c.tc : Thread Cert.KernelIdeal.nD Cert.KernelIdeal.τ).loc Cert.KernelIdeal.main_arg6) = m' (((0 : Dev Cert.ReferenceIdeal.nD).tc : Thread Cert.ReferenceIdeal.nD Cert.ReferenceIdeal.τ).loc Cert.ReferenceIdeal.main_arg6)
      ∧ m ((c.tc : Thread Cert.KernelIdeal.nD Cert.KernelIdeal.τ).loc Cert.KernelIdeal.main_arg7) = m' (((0 : Dev Cert.ReferenceIdeal.nD).tc : Thread Cert.ReferenceIdeal.nD Cert.ReferenceIdeal.τ).loc Cert.ReferenceIdeal.main_arg7)) →
    ∃ (v0 : Buf (Elt Ideal) (((0 : Dev Cert.ReferenceIdeal.nD).tc : Thread Cert.ReferenceIdeal.nD Cert.ReferenceIdeal.τ).loc Cert.ReferenceIdeal.main_v38)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v38) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4)
          ∧ r.2.mem (((0 : Dev Cert.ReferenceIdeal.nD).tc : Thread Cert.ReferenceIdeal.nD Cert.ReferenceIdeal.τ).loc Cert.ReferenceIdeal.main_arg5) = m' (((0 : Dev Cert.ReferenceIdeal.nD).tc : Thread Cert.ReferenceIdeal.nD Cert.ReferenceIdeal.τ).loc Cert.ReferenceIdeal.main_arg5)
          ∧ r.2.mem (((0 : Dev Cert.ReferenceIdeal.nD).tc : Thread Cert.ReferenceIdeal.nD Cert.ReferenceIdeal.τ).loc Cert.ReferenceIdeal.main_arg6) = m' (((0 : Dev Cert.ReferenceIdeal.nD).tc : Thread Cert.ReferenceIdeal.nD Cert.ReferenceIdeal.τ).loc Cert.ReferenceIdeal.main_arg6)
          ∧ r.2.mem (((0 : Dev Cert.ReferenceIdeal.nD).tc : Thread Cert.ReferenceIdeal.nD Cert.ReferenceIdeal.τ).loc Cert.ReferenceIdeal.main_arg7) = m' (((0 : Dev Cert.ReferenceIdeal.nD).tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x256x1024 : Shape := ⟨3, ![2, 256, 1024]⟩
abbrev S1024x64 : Shape := ⟨2, ![1024, 64]⟩
abbrev S64x1024 : Shape := ⟨2, ![64, 1024]⟩
abbrev S1024x1024 : Shape := ⟨2, ![1024, 1024]⟩
abbrev S1024x512 : Shape := ⟨2, ![1024, 512]⟩
abbrev S1024x32 : Shape := ⟨2, ![1024, 32]⟩
abbrev S256x2048 : Shape := ⟨2, ![256, 2048]⟩
abbrev S256x1024 : Shape := ⟨2, ![256, 1024]⟩
abbrev S8 : Shape := ⟨1, ![8]⟩
abbrev S2 : Shape := ⟨1, ![2]⟩
abbrev S_ : Shape := ⟨0, ![]⟩
abbrev S1x256x1024 : Shape := ⟨3, ![1, 256, 1024]⟩
abbrev S256x64 : Shape := ⟨2, ![256, 64]⟩
abbrev S1 : Shape := ⟨1, ![1]⟩
abbrev S256x256 : Shape := ⟨2, ![256, 256]⟩
abbrev S256x512 : Shape := ⟨2, ![256, 512]⟩
abbrev S256x32 : Shape := ⟨2, ![256, 32]⟩
abbrev S256 : Shape := ⟨1, ![256]⟩
abbrev S256x1 : Shape := ⟨2, ![256, 1]⟩
abbrev S1x256x512 : Shape := ⟨3, ![1, 256, 512]⟩

abbrev nBuf : Space → Nat
  | .hbm => 9
  | .vmem => 14
  | .smem => 0
  | _ => 0

abbrev bufTy : (tb : Table) → Fin (tcTables nBuf tb) → BufTy
  | .hbm, ⟨0, _⟩ => ⟨S2x256x1024, .bf16⟩
  | .hbm, ⟨1, _⟩ => ⟨S1024x64, .bf16⟩
  | .hbm, ⟨2, _⟩ => ⟨S64x1024, .bf16⟩
  | .hbm, ⟨3, _⟩ => ⟨S64x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .f32⟩
  | .local _ .vmem, ⟨0, _⟩ => ⟨S2x256x1024, .bf16⟩
  | .local _ .vmem, ⟨1, _⟩ => ⟨S1024x64, .bf16⟩
  | .local _ .vmem, ⟨2, _⟩ => ⟨S64x1024, .bf16⟩
  | .local _ .vmem, ⟨3, _⟩ => ⟨S64x1024, .bf16⟩
  | .local _ .vmem, ⟨4, _⟩ => ⟨S1024x1024, .bf16⟩
  | .local _ .vmem, ⟨5, _⟩ => ⟨S1024x512, .bf16⟩
  | .local _ .vmem, ⟨6, _⟩ => ⟨S1024x32, .bf16⟩
  | .local _ .vmem, ⟨7, _⟩ => ⟨S1024x1024, .bf16⟩
  | .local _ .vmem, ⟨8, _⟩ => ⟨S2x256x1024, .f32⟩
  | .local _ .vmem, ⟨9, _⟩ => ⟨S256x2048, .bf16⟩
  | .local _ .vmem, ⟨10, _⟩ => ⟨S256x2048, .bf16⟩
  | .local _ .vmem, ⟨11, _⟩ => ⟨S256x1024, .bf16⟩
  | .local _ .vmem, ⟨12, _⟩ => ⟨S256x1024, .bf16⟩
  | .local _ .vmem, ⟨13, _⟩ => ⟨S256x1024, .bf16⟩
  | _, _ => ⟨S2x256x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 1 → Bool
  | ⟨0, _⟩ => false
  | _ => false

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  (ofTc nBuf bufTy 1 29 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v1 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_scratch4 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_5 : BitVec 32 := 2#32
  let v9 : BitVec 32 := Scalar.muli v6 c2_i32_5
  let v10 : BitVec 32 := Scalar.addi c0_i32 v9
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_6 : BitVec 32 := 1#32
  let v11 : BitVec 32 := Scalar.muli v5 c1_i32_6
  let v12 : BitVec 32 := Scalar.addi v10 v11
  v12.toNat
def k0_dev2 (d0 : Dev nD) : Nat :=
  let c0_i32_9 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_8 : BitVec 32 := 2#32
  let v13 : BitVec 32 := Scalar.muli v2 c2_i32_8
  let v14 : BitVec 32 := Scalar.addi c0_i32_9 v13
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_10 : BitVec 32 := 1#32
  let v15 : BitVec 32 := Scalar.muli v7 c1_i32_10
  let v16 : BitVec 32 := Scalar.addi v14 v15
  v16.toNat
def k0_off1 (d0 : Dev nD) : Fin 3 → Nat :=
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v17 : Index := Scalar.indexCast v5
  let c0 : Index := 0#32
  let c0_12 : Index := 0#32
  ![v17.toNat, 0, 0]
def k0_dev3 (d0 : Dev nD) : Nat :=
  let c0_i32_27 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_26 : BitVec 32 := 2#32
  let v38 : BitVec 32 := Scalar.muli v6 c2_i32_26
  let v39 : BitVec 32 := Scalar.addi c0_i32_27 v38
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_28 : BitVec 32 := 1#32
  let v40 : BitVec 32 := Scalar.muli v5 c1_i32_28
  let v41 : BitVec 32 := Scalar.addi v39 v40
  v41.toNat
def k0_dev4 (d0 : Dev nD) : Nat :=
  let c0_i32_36 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_35 : BitVec 32 := 2#32
  let v48 : BitVec 32 := Scalar.muli v6 c2_i32_35
  let v49 : BitVec 32 := Scalar.addi c0_i32_36 v48
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_37 : BitVec 32 := 1#32
  let v50 : BitVec 32 := Scalar.muli v5 c1_i32_37
  let v51 : BitVec 32 := Scalar.addi v49 v50
  v51.toNat
def k0_dev5 (d0 : Dev nD) : Nat :=
  let c0_i32_44 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_43 : BitVec 32 := 2#32
  let v58 : BitVec 32 := Scalar.muli v6 c2_i32_43
  let v59 : BitVec 32 := Scalar.addi c0_i32_44 v58
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_45 : BitVec 32 := 1#32
  let v60 : BitVec 32 := Scalar.muli v5 c1_i32_45
  let v61 : BitVec 32 := Scalar.addi v59 v60
  v61.toNat
def k0_dev6 (d0 : Dev nD) : Nat :=
  let c0_i32_51 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_50 : BitVec 32 := 2#32
  let v68 : BitVec 32 := Scalar.muli v6 c2_i32_50
  let v69 : BitVec 32 := Scalar.addi c0_i32_51 v68
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_52 : BitVec 32 := 1#32
  let v70 : BitVec 32 := Scalar.muli v5 c1_i32_52
  let v71 : BitVec 32 := Scalar.addi v69 v70
  v71.toNat
def k0_dev7 (d0 : Dev nD) : Nat :=
  let c0_i32_58 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_57 : BitVec 32 := 2#32
  let v78 : BitVec 32 := Scalar.muli v6 c2_i32_57
  let v79 : BitVec 32 := Scalar.addi c0_i32_58 v78
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_59 : BitVec 32 := 1#32
  let v80 : BitVec 32 := Scalar.muli v5 c1_i32_59
  let v81 : BitVec 32 := Scalar.addi v79 v80
  v81.toNat
def k0_dev8 (d0 : Dev nD) : Nat :=
  let c0_i32_65 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_64 : BitVec 32 := 2#32
  let v88 : BitVec 32 := Scalar.muli v6 c2_i32_64
  let v89 : BitVec 32 := Scalar.addi c0_i32_65 v88
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_66 : BitVec 32 := 1#32
  let v90 : BitVec 32 := Scalar.muli v5 c1_i32_66
  let v91 : BitVec 32 := Scalar.addi v89 v90
  v91.toNat
def k0_dev9 (d0 : Dev nD) : Nat :=
  let c0_i32_72 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_71 : BitVec 32 := 2#32
  let v98 : BitVec 32 := Scalar.muli v6 c2_i32_71
  let v99 : BitVec 32 := Scalar.addi c0_i32_72 v98
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_73 : BitVec 32 := 1#32
  let v100 : BitVec 32 := Scalar.muli v5 c1_i32_73
  let v101 : BitVec 32 := Scalar.addi v99 v100
  v101.toNat
def k0_dev10 (d0 : Dev nD) : Nat :=
  let c0_i32_79 : BitVec 32 := 0#32
  let c1_i32_2 : BitVec 32 := 1#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let v6 : BitVec 32 := Scalar.subi c1_i32_2 v2
  let c2_i32_78 : BitVec 32 := 2#32
  let v108 : BitVec 32 := Scalar.muli v6 c2_i32_78
  let v109 : BitVec 32 := Scalar.addi c0_i32_79 v108
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let c1_i32_80 : BitVec 32 := 1#32
  let v110 : BitVec 32 := Scalar.muli v5 c1_i32_80
  let v111 : BitVec 32 := Scalar.addi v109 v110
  v111.toNat
def k0_dev11 (d0 : Dev nD) : Nat :=
  let c0_i32_317 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_316 : BitVec 32 := 2#32
  let v665 : BitVec 32 := Scalar.muli v2 c2_i32_316
  let v666 : BitVec 32 := Scalar.addi c0_i32_317 v665
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_318 : BitVec 32 := 1#32
  let v667 : BitVec 32 := Scalar.muli v7 c1_i32_318
  let v668 : BitVec 32 := Scalar.addi v666 v667
  v668.toNat
def k0_dev12 (d0 : Dev nD) : Nat :=
  let c0_i32_329 : BitVec 32 := 0#32
  let v0 : BitVec 32 := Dev.word d0
  let c2_i32_0 : BitVec 32 := 2#32
  let v1 : BitVec 32 := Scalar.divsi v0 c2_i32_0
  let c2_i32 : BitVec 32 := 2#32
  let v2 : BitVec 32 := Scalar.remsi v1 c2_i32
  let c2_i32_328 : BitVec 32 := 2#32
  let v681 : BitVec 32 := Scalar.muli v2 c2_i32_328
  let v682 : BitVec 32 := Scalar.addi c0_i32_329 v681
  let c1_i32_3 : BitVec 32 := 1#32
  let v3 : BitVec 32 := Dev.word d0
  let c1_i32 : BitVec 32 := 1#32
  let v4 : BitVec 32 := Scalar.divsi v3 c1_i32
  let c2_i32_1 : BitVec 32 := 2#32
  let v5 : BitVec 32 := Scalar.remsi v4 c2_i32_1
  let v7 : BitVec 32 := Scalar.subi c1_i32_3 v5
  let c1_i32_330 : BitVec 32 := 1#32
  let v683 : BitVec 32 := Scalar.muli v7 c1_i32_330
  let v684 : BitVec 32 := Scalar.addi v682 v683
  v684.toNat
abbrev stage0_0 : Fin 1 → Memref sig .tc .vmem S2x256x1024 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1024x64 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S64x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S64x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1024x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1024x32 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x256x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== KernelIdeal.lean ====
variable {F : FTy → Type} [FloatOps F] [Named F]
def κ : String → Option EReal := fun
  | "scale" => some (((Real.sqrt 96)⁻¹ : ℝ) : EReal)
  | _ => none
-- ==== ReferenceIdeal.lean ====
abbrev S2x256x1024 : Shape := ⟨3, ![2, 256, 1024]⟩
abbrev S1024x128 : Shape := ⟨2, ![1024, 128]⟩
abbrev S128x1024 : Shape := ⟨2, ![128, 1024]⟩
abbrev S1024x1024 : Shape := ⟨2, ![1024, 1024]⟩
abbrev S1024x512 : Shape := ⟨2, ![1024, 512]⟩
abbrev S1024x32 : Shape := ⟨2, ![1024, 32]⟩
abbrev S2x256x128 : Shape := ⟨3, ![2, 256, 128]⟩
abbrev S2x256x16x64 : Shape := ⟨4, ![2, 256, 16, 64]⟩
abbrev S2x256x512 : Shape := ⟨3, ![2, 256, 512]⟩
abbrev S2x256x16x32 : Shape := ⟨4, ![2, 256, 16, 32]⟩
abbrev S2x256x32 : Shape := ⟨3, ![2, 256, 32]⟩
abbrev S2x256x1x32 : Shape := ⟨4, ![2, 256, 1, 32]⟩
abbrev S2x16x256x256 : Shape := ⟨4, ![2, 16, 256, 256]⟩
abbrev S_ : Shape := ⟨0, ![]⟩
abbrev S2x16x256 : Shape := ⟨3, ![2, 16, 256]⟩
abbrev S2x16x256x1 : Shape := ⟨4, ![2, 16, 256, 1]⟩
abbrev S2x16x64x256 : Shape := ⟨4, ![2, 16, 64, 256]⟩

abbrev nBuf : Space → Nat
  | .hbm => 50
  | .vmem => 0
  | .smem => 0
  | _ => 0

abbrev bufTy : (tb : Table) → Fin (tcTables nBuf tb) → BufTy
  | .hbm, ⟨0, _⟩ => ⟨S2x256x1024, .bf16⟩
  | .hbm, ⟨1, _⟩ => ⟨S1024x128, .bf16⟩
  | .hbm, ⟨2, _⟩ => ⟨S128x1024, .bf16⟩
  | .hbm, ⟨3, _⟩ => ⟨S128x1024, .bf16⟩
  | .hbm, ⟨4, _⟩ => ⟨S1024x1024, .bf16⟩
  | .hbm, ⟨5, _⟩ => ⟨S1024x512, .bf16⟩
  | .hbm, ⟨6, _⟩ => ⟨S1024x32, .bf16⟩
  | .hbm, ⟨7, _⟩ => ⟨S1024x1024, .bf16⟩
  | .hbm, ⟨8, _⟩ => ⟨S2x256x1024, .f32⟩
  | .hbm, ⟨9, _⟩ => ⟨S1024x128, .f32⟩
  | .hbm, ⟨10, _⟩ => ⟨S128x1024, .f32⟩
  | .hbm, ⟨11, _⟩ => ⟨S128x1024, .f32⟩
  | .hbm, ⟨12, _⟩ => ⟨S1024x1024, .f32⟩
  | .hbm, ⟨13, _⟩ => ⟨S1024x512, .f32⟩
  | .hbm, ⟨14, _⟩ => ⟨S1024x32, .f32⟩
  | .hbm, ⟨15, _⟩ => ⟨S1024x1024, .f32⟩
  | .hbm, ⟨16, _⟩ => ⟨S2x256x128, .f32⟩
  | .hbm, ⟨17, _⟩ => ⟨S2x256x1024, .f32⟩
  | .hbm, ⟨18, _⟩ => ⟨S2x256x16x64, .f32⟩
  | .hbm, ⟨19, _⟩ => ⟨S2x256x1024, .f32⟩
  | .hbm, ⟨20, _⟩ => ⟨S2x256x16x64, .f32⟩
  | .hbm, ⟨21, _⟩ => ⟨S2x256x1024, .f32⟩
  | .hbm, ⟨22, _⟩ => ⟨S2x256x16x64, .f32⟩
  | .hbm, ⟨23, _⟩ => ⟨S2x256x512, .f32⟩
  | .hbm, ⟨24, _⟩ => ⟨S2x256x16x32, .f32⟩
  | .hbm, ⟨25, _⟩ => ⟨S2x256x32, .f32⟩
  | .hbm, ⟨26, _⟩ => ⟨S2x256x1x32, .f32⟩
  | .hbm, ⟨27, _⟩ => ⟨S2x16x256x256, .f32⟩
  | .hbm, ⟨28, _⟩ => ⟨S2x256x16x32, .f32⟩
  | .hbm, ⟨29, _⟩ => ⟨S2x16x256x256, .f32⟩
  | .hbm, ⟨30, _⟩ => ⟨S2x16x256x256, .f32⟩
  | .hbm, ⟨31, _⟩ => ⟨S_, .f32⟩
  | .hbm, ⟨32, _⟩ => ⟨S_, .f32⟩
  | .hbm, ⟨33, _⟩ => ⟨S2x16x256x256, .f32⟩
  | .hbm, ⟨34, _⟩ => ⟨S2x16x256x256, .f32⟩
  | .hbm, ⟨35, _⟩ => ⟨S_, .f32⟩
  | .hbm, ⟨36, _⟩ => ⟨S2x16x256, .f32⟩
  | .hbm, ⟨37, _⟩ => ⟨S2x16x256x1, .f32⟩
  | .hbm, ⟨38, _⟩ => ⟨S2x16x256x256, .f32⟩
  | .hbm, ⟨39, _⟩ => ⟨S2x16x256x256, .f32⟩
  | .hbm, ⟨40, _⟩ => ⟨S2x16x256x256, .f32⟩
  | .hbm, ⟨41, _⟩ => ⟨S_, .f32⟩
  | .hbm, ⟨42, _⟩ => ⟨S2x16x256, .f32⟩
  | .hbm, ⟨43, _⟩ => ⟨S2x16x256x1, .f32⟩
  | .hbm, ⟨44, _⟩ => ⟨S2x16x256x256, .f32⟩
  | .hbm, ⟨45, _⟩ => ⟨S2x16x256x256, .f32⟩
  | .hbm, ⟨46, _⟩ => ⟨S2x16x64x256, .f32⟩
  | .hbm, ⟨47, _⟩ => ⟨S2x256x16x64, .f32⟩
  | .hbm, ⟨48, _⟩ => ⟨S2x256x1024, .f32⟩
  | .hbm, ⟨49, _⟩ => ⟨S2x256x1024, .f32⟩
  | _, _ => ⟨S2x256x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_cst : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_cst_0 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_1 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩

abbrev nD : Nat := 1
abbrev τ : Topo := Topo.v7x

variable {F : FTy → Type} [FloatOps F]
-- ==== Proof.Spec.lean ====
/-
# What each device of the kernel computes, as plain functions of the memory at launch

The kernel splits the latent dimension over the mesh axis `x` and the batch over the axis `y`. Device `c = (x, y)`
works on batch row `y` (`c % 2`). It forms its part of the keys and values from its half of the latent dimension
(`XS`), trades that with the device of the other `x` (`xp c`), adds both parts and runs the sixteen heads (`HD`),
which fill the attention output (`OB`). The product with the output weights gives its row of the result (`resL`, `resR`), whose
rounded copy (`YS`) it trades with the device of the other `y` (`yp c`), so every device ends with both rows (`OUT`).

All of it is stated over any float values `F`.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.ValueIdx
public import Idealize.ShloMosaic.Lib.Pipeline.Value

@[expose] public section

noncomputable section

namespace Cert.MlaProof

open Cert.KernelIdeal Cert.KernelIdeal.Gen
open Idealize.ShloMosaic
open Idealize.ShloMosaic.TcCoe

variable {F : FTy → Type} [FloatOps F] [Named F]

/-! ## The two neighbours of a device -/

set_option backward.proofsInPublic true in
/-- The device holding the other half of the latent dimension, with the same batch row. -/
def xp (c : Dev nD) : Dev nD := ⟨(c.val + 2) % 4, Nat.mod_lt _ (by decide)⟩
set_option backward.proofsInPublic true in
/-- The device working on the other batch row, with the same half of the latent dimension. -/
def yp (c : Dev nD) : Dev nD := ⟨(2 * (c.val / 2) + 1) - c.val % 2, by have := c.isLt; show _ < 4; change c.val < 4 at this; omega⟩

theorem xp_xp (c : Dev nD) : xp (xp c) = c := by revert c; decide
theorem yp_yp (c : Dev nD) : yp (yp c) = c := by revert c; decide
theorem xp_ne_yp (c : Dev nD) : xp c ≠ yp c := by revert c; decide
def xpE : Dev nD ≃ Dev nD := ⟨xp, xp, xp_xp, xp_xp⟩
def ypE : Dev nD ≃ Dev nD := ⟨yp, yp, yp_yp, yp_yp⟩

/-! ## Two matrices side by side -/

section Sides
variable {α : Type}

/-- `A` in the left half of the columns, `B` in the right half. -/
def sides {n N : ℕ} (hN : N = n + n) (A B : (⟨2, ![256, n]⟩ : Shape).Idx → α) : (⟨2, ![256, N]⟩ : Shape).Idx → α :=
  fun i => if h : (i 1).val < n then A (ValueIdx.ix2 (i 0) ⟨(i 1).val, h⟩)
    else B (ValueIdx.ix2 (i 0) ⟨(i 1).val - n, by have h1 : (i 1).val < N := (i 1).isLt; omega⟩)

end Sides

variable (m : (ℓ : Loc nD τ sig) → Buf (Elt F) ℓ) (ρ : Dev nD → PrngReg)

/-- The memory at launch: arbitrary contents, every semaphore counter zero, arbitrary generator registers. -/
def s₀ : MemSt nD τ sig (Elt F) := ⟨m, fun _ => 0, ρ⟩

/-! ## The operands as staged on a device -/

def xA (c : Dev nD) : FVec F S2x256x1024 .bf16 := (win0_0.blk (0 : Fin 1)).view.read (Elt F) ((s₀ m ρ).mem ((c : Thread nD τ).loc main_arg0))
def wDkv (c : Dev nD) : FVec F S1024x64 .bf16 := (win0_1.blk (0 : Fin 1)).view.read (Elt F) ((s₀ m ρ).mem ((c : Thread nD τ).loc main_arg1))
def wUk (c : Dev nD) : FVec F S64x1024 .bf16 := (win0_2.blk (0 : Fin 1)).view.read (Elt F) ((s₀ m ρ).mem ((c : Thread nD τ).loc main_arg2))
def wUv (c : Dev nD) : FVec F S64x1024 .bf16 := (win0_3.blk (0 : Fin 1)).view.read (Elt F) ((s₀ m ρ).mem ((c : Thread nD τ).loc main_arg3))
def wQ (c : Dev nD) : FVec F S1024x1024 .bf16 := (win0_4.blk (0 : Fin 1)).view.read (Elt F) ((s₀ m ρ).mem ((c : Thread nD τ).loc main_arg4))
def wQr (c : Dev nD) : FVec F S1024x512 .bf16 := (win0_5.blk (0 : Fin 1)).view.read (Elt F) ((s₀ m ρ).mem ((c : Thread nD τ).loc main_arg5))
def wKr (c : Dev nD) : FVec F S1024x32 .bf16 := (win0_6.blk (0 : Fin 1)).view.read (Elt F) ((s₀ m ρ).mem ((c : Thread nD τ).loc main_arg6))
def wO (c : Dev nD) : FVec F S1024x1024 .bf16 := (win0_7.blk (0 : Fin 1)).view.read (Elt F) ((s₀ m ρ).mem ((c : Thread nD τ).loc main_arg7))

/-! ## The part of the keys and values one device forms -/

theorem inb_row (c : Dev nD) : ∀ a, (k0_off1 c) a + S1x256x1024.size a ≤ S2x256x1024.size a := by
  rw [k0_off1_eq]; revert c; decide

/-- Row `c % 2` of `x`, the batch row device `c` works on, with its leading axis of one. -/
def xRow (c : Dev nD) : FVec F S1x256x1024 .bf16 := extractStridedSlice S1x256x1024 (k0_off1 c) (xA m ρ c) ⟨rfl, inb_row c⟩

/-- The device's half of the compressed latent. -/
def lat (c : Dev nD) : FVec F S256x64 .bf16 := k0_pay2 (xRow m ρ c) (wDkv m ρ c)
/-- What the device sends its `x` neighbour: its part of the keys, then its part of the values. -/
def XS (c : Dev nD) : FVec F S256x2048 .bf16 :=
  sides (n := 1024) rfl (k0_pay4 (k0_pay3 (xRow m ρ c) (wDkv m ρ c) (wUk m ρ c))) (k0_pay5 (lat m ρ c) (wUv m ρ c))

/-! ## The heads -/

/-- The columns `[o, o + 256)`. -/
def chunk (f : FVec F S256x2048 .bf16) (o : ℕ) (h : o + 256 ≤ 2048) : FVec F S256x256 .bf16 :=
  extractStridedSlice S256x256 ![0, o] f ⟨rfl, fun a => by
    fin_cases a
    · show 0 + 256 ≤ 256; omega
    · exact h⟩

def qP (c : Dev nD) : FVec F S256x1024 .f32 := k0_pay7 (k0_pay1 (xRow m ρ c)) (k0_pay6 (wQ m ρ c)) (constant S256x1024 .f32 0x00000000#32)
def qrP (c : Dev nD) : FVec F S256x512 .f32 := k0_pay8 (k0_pay1 (xRow m ρ c)) (wQr m ρ c)
def krP (c : Dev nD) : FVec F S256x32 .bf16 := k0_pay9 (k0_pay1 (xRow m ρ c)) (wKr m ρ c)

/-- Keys (`o < 1024`) or values of four heads: both devices' parts added. -/
def kv (c : Dev nD) (o : ℕ) (h : o + 256 ≤ 2048) : FVec F S256x256 .bf16 :=
  k0_pay13 (chunk (XS m ρ c) o h) (chunk (XS m ρ (xp c)) o h)

/-- One head's scores, not yet scaled. -/
def scores (q : FVec F S256x1024 .f32) (qr : FVec F S256x512 .f32) (kr : FVec F S256x32 .bf16) (kc : FVec F S256x256 .bf16) (oq oqr ok : ℕ)
    (hq : S256x1024.Slices ![0, oq] S256x64) (hqr : S256x512.Slices ![0, oqr] S256x32) (hk : S256x256.Slices ![0, ok] S256x64) : FVec F S256x256 .f32 :=
  addf (matmul dot_S256x64_S256x64_S256x256_1_1_0_0_n_n none
      (truncf .bf16 (extractStridedSlice S256x64 ![0, oq] q hq) bitsLt_bf16_f32) (extractStridedSlice S256x64 ![0, ok] kc hk) (constant S256x256 .f32 0x00000000#32))
    (matmul dot_S256x32_S256x32_S256x256_1_1_0_0_n_n none
      (truncf .bf16 (extractStridedSlice S256x32 ![0, oqr] qr hqr) bitsLt_bf16_f32) kr (constant S256x256 .f32 0x00000000#32))

/-- The softmax over the last axis, as the kernel takes it: the row maximum off, the exponential, over its row sum. -/
def soft (l : FVec F S256x256 .f32) : FVec F S256x256 .f32 :=
  have e : FVec F S256x256 .f32 := exp (subf l (broadcastTo S256x256 (shapeCast S256x1
    (multiReduction .maximumf [1] S256 l 0xFF800000#32 reduces_S256x256_S256 (.inl rfl) rfl) shapeCasts_S256_S256x1) broadcasts_S256x1_S256x256))
  divf e (broadcastTo S256x256 (shapeCast S256x1
    (multiReduction .add [1] S256 e 0x00000000#32 reduces_S256x256_S256 (.inl rfl) rfl) shapeCasts_S256_S256x1) broadcasts_S256x1_S256x256)

/-- One head's output from its scores and its four-head block of values. -/
def headOut (l : FVec F S256x256 .f32) (vc : FVec F S256x256 .bf16) (ok : ℕ) (hk : S256x256.Slices ![0, ok] S256x64) : FVec F S256x64 .bf16 :=
  shapeCast S256x64 (truncf .bf16 (matmul dot_S256x256_S256x64_S256x64_1_0_0_1_n_n none
    (truncf .bf16 (soft (mulf l (broadcast S256x256 (Named.named κ "scale" 0x3DD105EC#32)))) bitsLt_bf16_f32)
    (extractStridedSlice S256x64 ![0, ok] vc hk) (constant S256x64 .f32 0x00000000#32)) bitsLt_bf16_f32) shapeCasts_S256x64_S256x64

theorem slices_q (h : Fin 16) : S256x1024.Slices ![0, 64 * h.val] S256x64 := by revert h; decide
theorem slices_qr (h : Fin 16) : S256x512.Slices ![0, 32 * h.val] S256x32 := by revert h; decide
theorem slices_kv (h : Fin 16) : S256x256.Slices ![0, 64 * (h.val % 4)] S256x64 := by revert h; decide
theorem kOff_le (h : Fin 16) : 256 * (h.val / 4) + 256 ≤ 2048 := by revert h; decide
theorem vOff_le (h : Fin 16) : 1024 + 256 * (h.val / 4) + 256 ≤ 2048 := by revert h; decide

/-- Head `h` on device `c`. -/
def HD (c : Dev nD) (h : Fin 16) : FVec F S256x64 .bf16 :=
  headOut (scores (qP m ρ c) (qrP m ρ c) (krP m ρ c) (kv m ρ c (256 * (h.val / 4)) (kOff_le h)) (64 * h.val) (32 * h.val) (64 * (h.val % 4))
    (slices_q h) (slices_qr h) (slices_kv h)) (kv m ρ c (1024 + 256 * (h.val / 4)) (vOff_le h)) (64 * (h.val % 4)) (slices_kv h)

/-- The attention output: head `h` in the columns `[64h, 64h + 64)`. -/
def OB (c : Dev nD) : FVec F S256x1024 .bf16 := fun i =>
  HD m ρ c ⟨(i 1).val / 64, by have h1 : (i 1).val < 1024 := (i 1).isLt; omega⟩ (ValueIdx.ix2 (i 0) ⟨(i 1).val % 64, Nat.mod_lt _ (by decide)⟩)

/-! ## The result -/

/-- The left and the right half of the columns of the device's row of the result. -/
def resL (c : Dev nD) : FVec F S256x512 .f32 := k0_pay49 (k0_pay10 (wO m ρ c)) (OB m ρ c)
def resR (c : Dev nD) : FVec F S256x512 .f32 := k0_pay51 (k0_pay10 (wO m ρ c)) (OB m ρ c)

/-- What the device sends its `y` neighbour: its row of the result, rounded. -/
def YS (c : Dev nD) : FVec F S256x1024 .bf16 :=
  sides (n := 512) rfl (k0_pay50 (k0_pay10 (wO m ρ c)) (OB m ρ c)) (k0_pay53 (k0_pay52 (k0_pay10 (wO m ρ c)) (OB m ρ c)))

/-- The two rows of the result on device `c`: its own as computed, the other as received. -/
def OUT (c : Dev nD) : FVec F S2x256x1024 .f32 := fun i =>
  if (i 0).val = c.val % 2 then sides (n := 512) rfl (resL m ρ c) (resR m ρ c) (ValueIdx.ix2 (i 1) (i 2))
  else extf .f32 (YS m ρ (yp c)) bitsLt_bf16_f32 (ValueIdx.ix2 (i 1) (i 2))

end Cert.MlaProof

end
-- ==== Proof.Protocol.lean ====
/-
# The protocol: who credits which semaphore, with what, and in which order

Each device has 21 semaphore cells (`CI`): the barrier, eight sends and eight receives of the key/value exchange along
`x`, two sends and two receives of the result exchange along `y`.

* The barrier collects one unit from each neighbour. The `x` neighbour's unit comes with its eight landing chunks for
  keys and values, the `y` neighbour's with its two landing halves for the result: what the later copies write.
* A send cell gives the source of the copy back, a receive cell gives the landing chunk holding the neighbour's data.
  The key/value chunks are read while their copies are still in flight, so a copy borrows only half of the share of
  its source.

Every cell has one round. Levels grow along the waits: barrier, key/value receives, result receives; the waits on the
sends come last and owe nothing.
-/
module

public import proofs.«01_k».proof.Proof.Spec
public import Idealize.ShloMosaic.Lib.Pipeline.Launch
public import Idealize.ShloMosaic.Lib.Pipeline.Kit
public import Idealize.ShloMosaic.Lib.Tactic

@[expose] public section

noncomputable section

namespace Cert.MlaProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-- The rounds' own algebra, and the launch's beside it. -/
abbrev UB : Type := URounds (GSem nD τ sig) Bool
abbrev UU : Type := UR sig nD τ × UB

local notation "𝕄" => MT nD τ sig Unit (Elt F) ℕ UU ℕ

abbrev EP : Emb (UR sig nD τ) (MT nD τ sig Unit (Elt F) ℕ UU ℕ) := embL
abbrev ER : Emb UB (MT nD τ sig Unit (Elt F) ℕ UU ℕ) := embR

variable (m : (ℓ : Loc nD τ sig) → Buf (Elt F) ℓ) (ρ : Dev nD → PrngReg)

/-! ## The cells -/

/-- The cells of one device: barrier, `x` sends, `x` receives, `y` sends, `y` receives. -/
abbrev CI : Type := Unit ⊕ Fin 8 ⊕ Fin 8 ⊕ Fin 2 ⊕ Fin 2
abbrev iB : CI := .inl ()
abbrev iXS (k : Fin 8) : CI := .inr (.inl k)
abbrev iXR (k : Fin 8) : CI := .inr (.inr (.inl k))
abbrev iYS (i : Fin 2) : CI := .inr (.inr (.inr (.inl i)))
abbrev iYR (i : Fin 2) : CI := .inr (.inr (.inr (.inr i)))

abbrev barS : Sem sig := (SemArray.scalar (sig.barrier 0 rfl) : Sems sig S_).sem
abbrev dsem (n : ℕ) (h : n < 29) : DmaSem sig := ⟨n, h⟩

/-- The semaphore under a cell's name. -/
def csem : CI → SemLoc sig
  | .inl _ => .reg barS
  | .inr (.inl k) => .dma (dsem (9 + k.val) (by omega))
  | .inr (.inr (.inl k)) => .dma (dsem (17 + k.val) (by omega))
  | .inr (.inr (.inr (.inl i))) => .dma (dsem (25 + i.val) (by omega))
  | .inr (.inr (.inr (.inr i))) => .dma (dsem (27 + i.val) (by omega))

/-- The name of a semaphore, if it is one of these cells'. -/
def dec : SemLoc sig → Option CI
  | .reg s => if s = barS then some iB else none
  | .dma q =>
    if q.val < 9 then none
    else if h : q.val < 17 then some (iXS ⟨q.val - 9, by omega⟩)
    else if h : q.val < 25 then some (iXR ⟨q.val - 17, by omega⟩)
    else if h : q.val < 27 then some (iYS ⟨q.val - 25, by omega⟩)
    else some (iYR ⟨q.val - 27, by have h29 : q.val < 29 := q.isLt; omega⟩)

theorem dec_csem (i : CI) : dec (csem i) = some i := by revert i; decide

theorem csem_injective : Function.Injective csem := fun i j h => by
  have := congrArg dec h; rw [dec_csem, dec_csem] at this; exact Option.some.inj this

abbrev kcell (ci : Dev nD × CI) : GSem nD τ sig := ((ci.1 : Thread nD τ), csem ci.2)

theorem kcell_injective : Function.Injective (kcell : Dev nD × CI → GSem nD τ sig) := by
  rintro ⟨c, i⟩ ⟨c', i'⟩ h
  have h1 : c = c' := congrArg (fun g : GSem nD τ sig => g.1.1) h
  have h2 : csem i = csem i' := congrArg Prod.snd h
  rw [h1, csem_injective h2]

/-! ## The buffers and their pieces -/

abbrev xsM : Memref sig .tc .vmem S256x2048 .bf16 := Memref.whole cc0_scratch0
abbrev xrM : Memref sig .tc .vmem S256x2048 .bf16 := Memref.whole cc0_scratch1
abbrev obM : Memref sig .tc .vmem S256x1024 .bf16 := Memref.whole cc0_scratch2
abbrev ysM : Memref sig .tc .vmem S256x1024 .bf16 := Memref.whole cc0_scratch3
abbrev yrM : Memref sig .tc .vmem S256x1024 .bf16 := Memref.whole cc0_scratch4

/-- The column the `k`th key/value chunk starts at: keys and values of four heads in turn. -/
def xo (k : Fin 8) : ℕ := 256 * (k.val / 2) + 1024 * (k.val % 2)
theorem xo_inb (k : Fin 8) : ∀ a, (![0, xo k] : Fin 2 → ℕ) a + S256x256.size a ≤ S256x2048.size a := by revert k; decide
theorem xo_le (k : Fin 8) : xo k + 256 ≤ 2048 := by revert k; decide
/-- The column the `i`th half of the result row starts at. -/
def yo (i : Fin 2) : ℕ := 512 * i.val
theorem yo_inb (i : Fin 2) : ∀ a, (![0, yo i] : Fin 2 → ℕ) a + S256x512.size a ≤ S256x1024.size a := by revert i; decide

abbrev xRect (k : Fin 8) : Rect S256x2048 := Rect.unit (s := S256x2048) ![0, xo k] S256x256.size (xo_inb k)
abbrev yRect (i : Fin 2) : Rect S256x1024 := Rect.unit (s := S256x1024) ![0, yo i] S256x512.size (yo_inb i)
abbrev xsC (k : Fin 8) : Memref sig .tc .vmem S256x256 .bf16 := xsM.slice (xRect k) (fun _ => rfl)
abbrev xrC (k : Fin 8) : Memref sig .tc .vmem S256x256 .bf16 := xrM.slice (xRect k) (fun _ => rfl)
abbrev ysC (i : Fin 2) : Memref sig .tc .vmem S256x512 .bf16 := ysM.slice (yRect i) (fun _ => rfl)
abbrev yrC (i : Fin 2) : Memref sig .tc .vmem S256x512 .bf16 := yrM.slice (yRect i) (fun _ => rfl)

/-- The credit of one key/value chunk, and of one half row of the result. -/
def NX : ℕ := (xrC 0).view.dmaCredit
def NY : ℕ := (yrC 0).view.dmaCredit
theorem NX_pos : 0 < NX := View.dmaCredit_pos _ (by decide)
theorem NY_pos : 0 < NY := View.dmaCredit_pos _ (by decide)

/-- Chunk `k` of the key/value send buffer, of its landing buffer; half `i` of the result's send buffer, of its landing buffer. -/
def xsP (c : Dev nD) (k : Fin 8) (q : PosShare TreeShare) (f : FVec F S256x2048 .bf16) : sProp 𝕄 :=
  (xsC k).view.loc (c : Thread nD τ) ↦[(xsC k).view.set]{q} f
def xrP (c : Dev nD) (k : Fin 8) (f : FVec F S256x2048 .bf16) : sProp 𝕄 :=
  (xrC k).view.loc (c : Thread nD τ) ↦[(xrC k).view.set]{fullShare} f
def ysP (c : Dev nD) (i : Fin 2) (f : FVec F S256x1024 .bf16) : sProp 𝕄 :=
  (ysC i).view.loc (c : Thread nD τ) ↦[(ysC i).view.set]{fullShare} f
def yrP (c : Dev nD) (i : Fin 2) (f : FVec F S256x1024 .bf16) : sProp 𝕄 :=
  (yrC i).view.loc (c : Thread nD τ) ↦[(yrC i).view.set]{fullShare} f

/-! ## The schedule -/

/-- What a cell's duty hands the device waiting on it. -/
def pay (c : Dev nD) : CI → Bool → sProp 𝕄
  | .inl _, true => bigSep Finset.univ fun k : Fin 8 => iprop(∃ f : FVec F S256x2048 .bf16, xrP (xp c) k f)
  | .inl _, false => bigSep Finset.univ fun i : Fin 2 => iprop(∃ f : FVec F S256x1024 .bf16, yrP (yp c) i f)
  | .inr (.inl k), _ => xsP c k fullShare.left (XS m ρ c)
  | .inr (.inr (.inl k)), _ => xrP c k (XS m ρ (xp c))
  | .inr (.inr (.inr (.inl i))), _ => ysP c i (YS m ρ c)
  | .inr (.inr (.inr (.inr i))), _ => yrP c i (YS m ρ (yp c))

/-- What one duty of a cell credits. -/
def amt : CI → ℕ
  | .inl _ => 1
  | .inr (.inl _) => NX
  | .inr (.inr (.inl _)) => NX
  | .inr (.inr (.inr (.inl _))) => NY
  | .inr (.inr (.inr (.inr _))) => NY

theorem amt_pos (i : CI) : 0 < amt i := by
  rcases i with _ | _ | _ | _ | _
  exacts [Nat.one_pos, NX_pos, NX_pos, NY_pos, NY_pos]

/-- The duties of a cell in its one round: two at the barrier, one elsewhere. -/
def dut : CI → Finset Bool
  | .inl _ => Finset.univ
  | .inr _ => {false}

def sch : Rounds.Schedule (GSem nD τ sig) Bool 𝕄 where
  duties g r := if r = 0 ∧ g.1.2 = .tc then (dec g.2).elim ∅ dut else ∅
  unitless _ := False
  amount g _ _ := (dec g.2).elim 1 amt
  payload g _ d := (dec g.2).elim iprop(emp) fun i => pay m ρ g.1.1 i d
  amount_pos g _ _ _ := by
    cases dec g.2 with
    | none => exact Nat.one_pos
    | some i => exact amt_pos i

instance pay_storable (c : Dev nD) (i : CI) (d : Bool) : BI.Storable (upEmb : UEmb _ 𝕄) (pay (F := F) m ρ c i d) := by
  rcases i with _ | _ | _ | _ | _ <;> cases d <;> unfold pay <;> (try unfold xrP) <;> (try unfold yrP) <;> (try unfold xsP) <;> (try unfold ysP) <;> infer_instance

instance sch_payload_storable (g : GSem nD τ sig) (r : ℕ) (d : Bool) :
    BI.Storable (upEmb : UEmb _ 𝕄) ((sch (F := F) m ρ).payload g r d) := by
  show BI.Storable upEmb ((dec g.2).elim iprop(emp) fun i => pay m ρ g.1.1 i d)
  cases dec g.2 with
  | none => exact inferInstanceAs (BI.Storable upEmb iprop(emp))
  | some i => exact pay_storable m ρ g.1.1 i d

section Sched
variable (c : Dev nD) (i : CI)

theorem duties_at : (sch (F := F) m ρ).duties (kcell (c, i)) 0 = dut i := by
  dsimp only [sch]; rw [if_pos ⟨rfl, rfl⟩, dec_csem]; rfl
theorem duties_later (g : GSem nD τ sig) : ∀ r, 1 ≤ r → (sch (F := F) m ρ).duties g r = ∅ :=
  fun r hr => by dsimp only [sch]; rw [if_neg fun h => by omega]
theorem amount_at (d : Bool) : (sch (F := F) m ρ).amount (kcell (c, i)) 0 d = amt i := by
  dsimp only [sch]; rw [dec_csem]; rfl
theorem payload_at (d : Bool) : (sch (F := F) m ρ).payload (kcell (c, i)) 0 d = pay m ρ c i d := by
  dsimp only [sch]; rw [dec_csem]; rfl

theorem mem_dut_false : false ∈ (sch (F := F) m ρ).duties (kcell (c, i)) 0 := by
  rw [duties_at]; rcases i with _ | i
  · exact Finset.mem_univ _
  · exact Finset.mem_singleton_self _

theorem expect_bar : (sch (F := F) m ρ).expect (kcell (c, iB)) 0 = 2 := by
  unfold Schedule.expect Schedule.amountOf
  rw [duties_at, Finset.sum_congr rfl fun d _ => amount_at m ρ c iB d]
  rfl
theorem expect_dma (j) : (sch (F := F) m ρ).expect (kcell (c, .inr j)) 0 = amt (.inr j) := by
  unfold Schedule.expect Schedule.amountOf
  rw [duties_at]
  exact (Finset.sum_singleton _ _).trans (amount_at m ρ c _ _)

theorem rest_bar : bigSep ((sch (F := F) m ρ).duties (kcell (c, iB)) 0 \ ∅) (fun d => (sch (F := F) m ρ).payload (kcell (c, iB)) 0 d)
    = iprop(pay m ρ c iB false ∗ pay m ρ c iB true) := by
  rw [Finset.sdiff_empty, duties_at, show dut iB = Finset.univ from rfl, bigSep_univ_eq_bigSepL [false, true] (by decide) (by decide), bigSepL_cons_cons,
    bigSepL_singleton, payload_at, payload_at]
  rfl
theorem rest_dma (j) : bigSep ((sch (F := F) m ρ).duties (kcell (c, .inr j)) 0 \ ∅) (fun d => (sch (F := F) m ρ).payload (kcell (c, .inr j)) 0 d)
    = pay m ρ c (.inr j) false := by
  rw [Finset.sdiff_empty, duties_at, show dut (.inr j) = {false} from rfl, bigSep_singleton, payload_at]

end Sched

/-! ## What a device owes, and the levels -/

/-- The credits a device pays to other devices, by name: its unit to the barrier of its `x` neighbour (`true`) or of its
    `y` neighbour (`false`), the arrival of its `k`th chunk, of its `i`th half row. -/
abbrev IT : Type := Bool ⊕ Fin 8 ⊕ Fin 2
/-- The device paid, and its cell. -/
def dst : IT → Dev nD ≃ Dev nD
  | .inl true => xpE
  | .inl false => ypE
  | .inr (.inl _) => xpE
  | .inr (.inr _) => ypE
def idx : IT → CI
  | .inl _ => iB
  | .inr (.inl k) => iXR k
  | .inr (.inr i) => iYR i

/-- Device `c` owes the payments listed. -/
def owe (c : Dev nD) : List IT → CellTallies nD τ sig Unit
  | [] => 0
  | a :: l => owe c l + tallyAt (kcell (dst a c, idx a)) () (amt (idx a))

def L (g : GSem nD τ sig) : Finset Unit := if g.1.2 = .tc then {()} else ∅
def lvI : CI → ℕ
  | .inl _ => 1
  | .inr (.inl _) => 0
  | .inr (.inr (.inl _)) => 2
  | .inr (.inr (.inr (.inl _))) => 0
  | .inr (.inr (.inr (.inr _))) => 3
def lv (g : GSem nD τ sig) (_ : Unit) : ℕ := (dec g.2).elim 0 lvI

theorem L_of_ne (g : GSem nD τ sig) (h : g.1.2 ≠ .tc) : L g = ∅ := if_neg h
theorem L_tc (c : Dev nD) (sm : SemLoc sig) : L ((c : Thread nD τ), sm) = {()} := if_pos rfl
theorem lv_at (c : Dev nD) (i : CI) : lv (kcell (c, i)) () = lvI i := by dsimp only [lv]; rw [dec_csem]; rfl

theorem owe_pos {c : Dev nD} {l : List IT} {g : GSem nD τ sig} {u : Unit} (h : 0 < owe c l g u) : ∃ a ∈ l, g = kcell (dst a c, idx a) := by
  induction l with
  | nil => exact absurd h (Nat.lt_irrefl 0)
  | cons a l ih =>
    unfold owe at h
    rw [Pi.add_apply, Finsupp.add_apply, tallyAt_apply] at h
    by_cases hg : g = kcell (dst a c, idx a) ∧ u = ()
    · exact ⟨a, List.mem_cons_self .., hg.1⟩
    · rw [if_neg hg, Nat.add_zero] at h
      obtain ⟨b, hb, e⟩ := ih h
      exact ⟨b, List.mem_cons_of_mem _ hb, e⟩

/-- A wait on a semaphore whose level is below every payment still owed. -/
theorem mayWait (c : Dev nD) (sm : SemLoc sig) (l : List IT) (n : ℕ) (hn : (dec sm).elim 0 lvI ≤ n) (hl : ∀ a ∈ l, n < lvI (idx a)) :
    (levAts L lv : sProp 𝕄) ⊢ MayWait (c : Thread nD τ) sm () (owe c l) :=
  MayOwe.of_cut (L := L) (lev := lv) n (fun p hp => by rw [Finset.mem_singleton.mp hp, L_tc]; exact Finset.mem_singleton_self _)
    (fun g u hg => by obtain ⟨a, -, rfl⟩ := owe_pos hg; exact Finset.mem_singleton_self _)
    (fun p hp => by rw [Finset.mem_singleton.mp hp]; exact hn)
    (fun g u hg => by obtain ⟨a, ha, rfl⟩ := owe_pos hg; rw [lv_at]; exact hl a ha)

/-! ## The facts every device shares -/

def records (K : Dev nD × CI → ℕ) : sProp 𝕄 :=
  iprop((bigSep Finset.univ fun ci : Dev nD × CI => cellInv ER (sch m ρ) (K ci) (kcell ci))
    ∗ (bigSep Finset.univ fun ci : Dev nD × CI => reached ER (kcell ci) 0) ∗ levAts L lv)

instance records_persistent (K : Dev nD × CI → ℕ) : BI.Persistent (records m ρ K) := by unfold records; infer_instance

theorem records_inv (K : Dev nD × CI → ℕ) (ci : Dev nD × CI) : records m ρ K ⊢ cellInv ER (sch m ρ) (K ci) (kcell ci) := by
  have h : (bigSep Finset.univ fun ci : Dev nD × CI => (cellInv ER (sch m ρ) (K ci) (kcell ci) : sProp 𝕄)) ⊢ cellInv ER (sch m ρ) (K ci) (kcell ci) :=
    bigSep_elim (Finset.mem_univ ci)
  unfold records; iintro ⟨H, -, -⟩
  iapply h; iexact H
theorem records_reached (K : Dev nD × CI → ℕ) (ci : Dev nD × CI) : records m ρ K ⊢ reached ER (kcell ci) 0 := by
  have h : (bigSep Finset.univ fun ci : Dev nD × CI => (reached ER (kcell ci) 0 : sProp 𝕄)) ⊢ reached ER (kcell ci) 0 :=
    bigSep_elim (Finset.mem_univ ci)
  unfold records; iintro ⟨-, H, -⟩
  iapply h; iexact H
theorem records_lev (K : Dev nD × CI → ℕ) : records m ρ K ⊢ levAts L lv := by unfold records; iintro ⟨-, -, H⟩; iexact H

end Cert.MlaProof

end
-- ==== Proof.Geom.lean ====
/-
# The rectangles the kernel stores to and copies

Pure facts about columns of a matrix: which entries a block of columns covers, what a store to a block of columns
leaves, and what the kernel's runs of stores add up to (`sides`, `OB`, `OUT`).
-/
module

public import proofs.«01_k».proof.Proof.Protocol
public import Idealize.ShloMosaic.Lib.ValueLayout

@[expose] public section

noncomputable section

namespace Cert.MlaProof

open Cert.KernelIdeal Cert.KernelIdeal.Gen
open Idealize.ShloMosaic
open Idealize.ShloMosaic.TcCoe
open Idealize.ShloMosaic.ValueIdx

variable {F : FTy → Type} [FloatOps F] [Named F]

section Cols
variable {α : Type} {N w o : ℕ}

/-- The columns `[o, o + w)` of a matrix of 256 rows. -/
theorem mem_cols (inb : ∀ a, (![0, o] : Fin 2 → ℕ) a + (⟨2, ![256, w]⟩ : Shape).size a ≤ (⟨2, ![256, N]⟩ : Shape).size a) (i : (⟨2, ![256, N]⟩ : Shape).Idx) :
    i ∈ (Rect.unit (s := ⟨2, ![256, N]⟩) ![0, o] (⟨2, ![256, w]⟩ : Shape).size inb).set ↔ o ≤ (i 1).val ∧ (i 1).val < o + w := by
  rw [Rect.mem_set_unit]
  refine ⟨fun h => h 1, fun h a => ?_⟩
  match a with
  | ⟨0, _⟩ => exact ⟨Nat.zero_le _, by have h0 : (i 0).val < 256 := (i 0).isLt; show (i 0).val < 0 + 256; omega⟩
  | ⟨1, _⟩ => exact h

variable (f : (⟨2, ![256, N]⟩ : Shape).Idx → α) (g : (⟨2, ![256, w]⟩ : Shape).Idx → α)

/-- A store to a block of columns, read inside the block -/
theorem upd_in (h : (⟨2, ![256, N]⟩ : Shape).Slices ![0, o] ⟨2, ![256, w]⟩) (i : (⟨2, ![256, N]⟩ : Shape).Idx) (h1 : o ≤ (i 1).val) (h2 : (i 1).val < o + w) :
    updateSlice f g ![0, o] h i = g (ix2 (i 0) ⟨(i 1).val - o, by omega⟩) := by
  unfold updateSlice
  rw [dif_pos (fun a => by
    match a with
    | ⟨0, _⟩ => exact ⟨Nat.zero_le _, by have h0 : (i 0).val < 256 := (i 0).isLt; show (i 0).val < 0 + 256; omega⟩
    | ⟨1, _⟩ => exact ⟨h1, h2⟩)]
  congr 1
  funext b
  match b with
  | ⟨0, _⟩ => exact Fin.ext (Nat.sub_zero _)
  | ⟨1, _⟩ => rfl

/-- and outside it. -/
theorem upd_out (h : (⟨2, ![256, N]⟩ : Shape).Slices ![0, o] ⟨2, ![256, w]⟩) (i : (⟨2, ![256, N]⟩ : Shape).Idx) (h1 : ¬ (o ≤ (i 1).val ∧ (i 1).val < o + w)) :
    updateSlice f g ![0, o] h i = f i := by
  unfold updateSlice
  rw [dif_neg (fun hh => h1 (hh 1))]

end Cols

section Sides
variable {α : Type} {n N : ℕ} (hN : N = n + n)
variable (f : (⟨2, ![256, N]⟩ : Shape).Idx → α) (A B : (⟨2, ![256, n]⟩ : Shape).Idx → α)

/-- A store to the left half of the columns makes the left half of `sides`; -/
theorem sides_left (h : (⟨2, ![256, N]⟩ : Shape).Slices ![0, 0] ⟨2, ![256, n]⟩) (i : (⟨2, ![256, N]⟩ : Shape).Idx) (hi : (i 1).val < n) :
    updateSlice f A ![0, 0] h i = sides hN A B i := by
  rw [upd_in f A h i (Nat.zero_le _) (by omega)]
  unfold sides
  rw [dif_pos hi]
  rfl

/-- a store to the right half the right half. -/
theorem sides_right {o : ℕ} (ho : o = n) (h : (⟨2, ![256, N]⟩ : Shape).Slices ![0, o] ⟨2, ![256, n]⟩) (i : (⟨2, ![256, N]⟩ : Shape).Idx) (hi : ¬ (i 1).val < n) :
    updateSlice f B ![0, o] h i = sides hN A B i := by
  subst ho
  have h1 : (i 1).val < N := (i 1).isLt
  rw [upd_in f B h i (by omega) (by omega)]
  unfold sides
  rw [dif_neg hi]

theorem sides_both {o : ℕ} (ho : o = n) (h0 : (⟨2, ![256, N]⟩ : Shape).Slices ![0, 0] ⟨2, ![256, n]⟩) (h : (⟨2, ![256, N]⟩ : Shape).Slices ![0, o] ⟨2, ![256, n]⟩) :
    updateSlice (updateSlice f A ![0, 0] h0) B ![0, o] h = sides hN A B := by
  funext i
  by_cases hi : (i 1).val < n
  · rw [upd_out _ _ h i (by omega)]; exact sides_left hN f A B h0 i hi
  · exact sides_right hN _ A B ho h i hi

end Sides

/-- A load of 256 columns of the key/value send buffer; -/
theorem read_xs (f : FVec F S256x2048 .bf16) {o : ℕ} (inb : ∀ a, (![0, o] : Fin 2 → ℕ) a + S256x256.size a ≤ S256x2048.size a) (ho : o + 256 ≤ 2048) :
    xsM.view.readAt (Elt F) (Rect.unit (s := S256x2048) ![0, o] S256x256.size inb).toLoadRect f = chunk f o ho := by
  funext j
  refine congrArg f (funext fun a => Fin.ext ?_)
  match a with
  | ⟨0, _⟩ => exact congrArg (0 + ·) (Nat.one_mul _)
  | ⟨1, _⟩ => exact congrArg (o + ·) (Nat.one_mul _)

/-- of its landing buffer. -/
theorem read_xr (f : FVec F S256x2048 .bf16) {o : ℕ} (inb : ∀ a, (![0, o] : Fin 2 → ℕ) a + S256x256.size a ≤ S256x2048.size a) (ho : o + 256 ≤ 2048) :
    xrM.view.readAt (Elt F) (Rect.unit (s := S256x2048) ![0, o] S256x256.size inb).toLoadRect f = chunk f o ho := read_xs f inb ho

variable (m : (ℓ : Loc nD τ sig) → Buf (Elt F) ℓ) (ρ : Dev nD → PrngReg)

/-- One more head stored: the first `h + 1` heads are in place. -/
theorem head_upd (c : Dev nD) (h : Fin 16) {o : ℕ} (ho : o = 64 * h.val) (f : FVec F S256x1024 .bf16) (hs : S256x1024.Slices ![0, o] S256x64)
    (hf : ∀ i : S256x1024.Idx, (i 1).val < 64 * h.val → f i = OB m ρ c i) :
    ∀ i : S256x1024.Idx, (i 1).val < 64 * (h.val + 1) → updateSlice f (HD m ρ c h) ![0, o] hs i = OB m ρ c i := by
  subst ho
  intro i hi
  by_cases h1 : (i 1).val < 64 * h.val
  · exact (upd_out f (HD m ρ c h) hs i (by omega)).trans (hf i h1)
  · rw [upd_in f (HD m ρ c h) hs i (by omega) (by omega)]
    unfold OB
    have e : (⟨(i 1).val / 64, by have h1 : (i 1).val < 1024 := (i 1).isLt; omega⟩ : Fin 16) = h := Fin.ext (by show (i 1).val / 64 = h.val; omega)
    rw [e]
    congr 1
    funext a
    match a with
    | ⟨0, _⟩ => rfl
    | ⟨1, _⟩ => exact Fin.ext (by show (i 1).val - 64 * h.val = (i 1).val % 64; omega)

/-! ## The result's two rows -/

section Rows
variable {α : Type} {w : ℕ} (f : S2x256x1024.Idx → α) (g : (⟨3, ![1, 256, w]⟩ : Shape).Idx → α) {r o : ℕ}

theorem row_in (h : S2x256x1024.Slices ![r, 0, o] ⟨3, ![1, 256, w]⟩) (i : S2x256x1024.Idx) (h0 : (i 0).val = r) (h1 : o ≤ (i 2).val) (h2 : (i 2).val < o + w) :
    updateSlice f g ![r, 0, o] h i = g (ix3 0 (i 1) ⟨(i 2).val - o, by omega⟩) := by
  unfold updateSlice
  rw [dif_pos (fun a => by
    match a with
    | ⟨0, _⟩ => exact ⟨le_of_eq h0.symm, by show (i 0).val < r + 1; omega⟩
    | ⟨1, _⟩ => exact ⟨Nat.zero_le _, by have h0 : (i 1).val < 256 := (i 1).isLt; show (i 1).val < 0 + 256; omega⟩
    | ⟨2, _⟩ => exact ⟨h1, h2⟩)]
  congr 1
  funext b
  match b with
  | ⟨0, _⟩ => exact Fin.ext (by show (i 0).val - r = 0; omega)
  | ⟨1, _⟩ => exact Fin.ext (Nat.sub_zero _)
  | ⟨2, _⟩ => rfl

theorem row_out (h : S2x256x1024.Slices ![r, 0, o] ⟨3, ![1, 256, w]⟩) (i : S2x256x1024.Idx) (h1 : ¬ ((i 0).val = r ∧ o ≤ (i 2).val ∧ (i 2).val < o + w)) :
    updateSlice f g ![r, 0, o] h i = f i := by
  unfold updateSlice
  refine dif_neg fun hh => h1 ⟨?_, hh 2⟩
  have a : r ≤ (i 0).val ∧ (i 0).val < r + 1 := hh 0
  omega

end Rows

/-- The result after its three stores: the two halves of the device's own row, then the row received. -/
theorem out_upd (c : Dev nD) {r r' : ℕ} (hr : r = c.val % 2) (hr' : r' = 1 - c.val % 2) (f : FVec F S2x256x1024 .f32)
    (h1 : S2x256x1024.Slices ![r, 0, 0] S1x256x512) (h2 : S2x256x1024.Slices ![r, 0, 512] S1x256x512) (h3 : S2x256x1024.Slices ![r', 0, 0] S1x256x1024) :
    updateSlice (updateSlice (updateSlice f (k0_pay54 (resL m ρ c)) ![r, 0, 0] h1) (k0_pay55 (resR m ρ c)) ![r, 0, 512] h2)
      (k0_pay58 (YS m ρ (yp c))) ![r', 0, 0] h3 = OUT m ρ c := by
  subst hr; subst hr'
  funext i
  have hc : c.val % 2 < 2 := Nat.mod_lt _ (by decide)
  have h0 : (i 0).val < 2 := (i 0).isLt
  have h2' : (i 2).val < 1024 := (i 2).isLt
  unfold OUT
  by_cases hi : (i 0).val = c.val % 2
  · rw [if_pos hi, row_out _ _ h3 i (by omega)]
    unfold sides
    by_cases hj : (i 2).val < 512
    · rw [row_out _ _ h2 i (by omega), row_in _ _ h1 i hi (Nat.zero_le _) (by omega), dif_pos hj]
      exact shapeCast_ab_1ab_apply (resL m ρ c) _ _ _ _
    · rw [row_in _ _ h2 i hi (by omega) (by omega), dif_neg hj]
      exact shapeCast_ab_1ab_apply (resR m ρ c) _ _ _ _
  · rw [if_neg hi, row_in _ _ h3 i (by omega) (Nat.zero_le _) (by omega)]
    exact shapeCast_ab_1ab_apply (extf .f32 (YS m ρ (yp c)) bitsLt_bf16_f32) _ _ _ _

/-! ## The pieces of the exchanged buffers -/

theorem xRect_disjoint (k k' : Fin 8) (h : k ≠ k') : Disjoint (xRect k).set (xRect k').set :=
  Finset.disjoint_left.mpr fun i hi hi' => by
    have a := (mem_cols (xo_inb k) i).mp hi
    have b := (mem_cols (xo_inb k') i).mp hi'
    unfold xo at a b
    exact h (Fin.ext (by omega))

theorem xRect_cover : Finset.univ.biUnion (fun k => (xRect k).set) = Finset.univ :=
  Finset.eq_univ_iff_forall.mpr fun i => Finset.mem_biUnion.mpr (by
    have h1 : (i 1).val < 2048 := (i 1).isLt
    refine ⟨⟨2 * ((i 1).val % 1024 / 256) + (i 1).val / 1024, by omega⟩, Finset.mem_univ _, (mem_cols (xo_inb _) i).mpr ?_⟩
    unfold xo
    dsimp only
    omega)

theorem yRect_disjoint (k k' : Fin 2) (h : k ≠ k') : Disjoint (yRect k).set (yRect k').set :=
  Finset.disjoint_left.mpr fun i hi hi' => by
    have a := (mem_cols (yo_inb k) i).mp hi
    have b := (mem_cols (yo_inb k') i).mp hi'
    unfold yo at a b
    exact h (Fin.ext (by omega))

theorem yRect_cover : Finset.univ.biUnion (fun k => (yRect k).set) = Finset.univ :=
  Finset.eq_univ_iff_forall.mpr fun i => Finset.mem_biUnion.mpr (by
    have h1 : (i 1).val < 1024 := (i 1).isLt
    refine ⟨⟨(i 1).val / 512, by omega⟩, Finset.mem_univ _, (mem_cols (yo_inb _) i).mpr ?_⟩
    unfold yo
    dsimp only
    omega)

/-- Every chunk, on either side of a copy, counts the same credit, and so does every half row. -/
theorem NX_eq (k : Fin 8) : (xrC k).view.dmaCredit = NX := by
  unfold NX View.dmaCredit
  decide +revert
theorem NXs_eq (k : Fin 8) : (xsC k).view.dmaCredit = NX := by
  unfold NX View.dmaCredit
  decide +revert
theorem NY_eq (i : Fin 2) : (yrC i).view.dmaCredit = NY := by
  unfold NY View.dmaCredit
  decide +revert
theorem NYs_eq (i : Fin 2) : (ysC i).view.dmaCredit = NY := by
  unfold NY View.dmaCredit
  decide +revert

/-- A chunk that landed holds the sender's entries. -/
theorem landed_x (k : Fin 8) (fd fs : FVec F S256x2048 .bf16) (i : S256x2048.Idx) (hi : i ∈ (xRect k).set) :
    (xrC k).view.write (Elt F) fd ((xsC k).view.read (Elt F) fs) Finset.univ i = fs i := by
  rw [← Rect.map_emb_univ] at hi
  obtain ⟨j, -, rfl⟩ := Finset.mem_map.mp hi
  exact View.write_emb_of_mem (Val := Elt F) (v := (xrC k).view) fd _ (Finset.mem_univ j)

theorem landed_y (k : Fin 2) (fd fs : FVec F S256x1024 .bf16) (i : S256x1024.Idx) (hi : i ∈ (yRect k).set) :
    (yrC k).view.write (Elt F) fd ((ysC k).view.read (Elt F) fs) Finset.univ i = fs i := by
  rw [← Rect.map_emb_univ] at hi
  obtain ⟨j, -, rfl⟩ := Finset.mem_map.mp hi
  exact View.write_emb_of_mem (Val := Elt F) (v := (yrC k).view) fd _ (Finset.mem_univ j)

end Cert.MlaProof

end
-- ==== Proof.Steps.lean ====
/-
# One step of the protocol at a time

The rules the run uses for a copy sent, a copy waited for, and the buffers cut into the pieces the copies move and put
together again, each stated once for a chunk (`k`), a half (`i`) or a cell (`j`).
-/
module

public import proofs.«01_k».proof.Proof.Geom

@[expose] public section

noncomputable section

namespace Cert.MlaProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg)

abbrev 𝒱₀ : Variants := Variants.none

/-- A program on device `c` run to the postcondition `Q`. -/
abbrev WP (c : Dev nD) {α : Type} (p : Prog (TpuEff nD τ sig (Elt F) Λ₀ .tc) α) (Q : α → sProp 𝕄) : sProp 𝕄 :=
  wp frame (wpE (defs₀ (F := F)) 𝒱₀ (c : Thread nD τ) none) Set.univ p Q

/-- Device `c` owes exactly the payments listed. -/
def owed (c : Dev nD) (l : List IT) : sProp 𝕄 := iprop(∃ W, owes (c : Thread nD τ) (owe c l) W)

/-- What a device holds to wait on its cell `i` for `n`: the credit and its place before the cell's round. -/
def wtok (c : Dev nD) (i : CI) (n : ℕ) : sProp 𝕄 := iprop(cred (tallyAt (kcell (c, i)) () n) ∗ atPos ER (kcell (c, i)) 0 ∅ 0)

/-- What a device holds to send chunk `k`: its source (half of the share), the landing chunk, both cells' duties. -/
def sxtok (c : Dev nD) (k : Fin 8) : sProp 𝕄 :=
  iprop((∃ f : FVec F S256x2048 .bf16, xrP (xp c) k f) ∗ dutyTok ER (kcell (c, iXS k)) 0 false ∗ dutyTok ER (kcell (xp c, iXR k)) 0 false)
def sytok (c : Dev nD) (i : Fin 2) : sProp 𝕄 :=
  iprop((∃ f : FVec F S256x1024 .bf16, yrP (yp c) i f) ∗ dutyTok ER (kcell (c, iYS i)) 0 false ∗ dutyTok ER (kcell (yp c, iYR i)) 0 false)

variable (K : Dev nD × CI → ℕ)

/-! ## Copies -/

/-- Chunk `k` sent to the `x` neighbour. -/
theorem send_x (c : Dev nD) (k : Fin 8) (l : List IT) {n : Dev nD} {o : ℕ} {sS sR : DmaSem sig}
    {inb : ∀ a, (![0, o] : Fin 2 → ℕ) a + S256x256.size a ≤ S256x2048.size a} {h1 h2}
    {hsc : (xrM.slice (Rect.unit (s := S256x2048) ![0, o] S256x256.size inb) h2 : Memref sig (Dev.tc n : Thread nD τ).2.kind .vmem S256x256 .bf16).view.ref.isScScratch = false}
    {hsrc : (xsM.slice (Rect.unit (s := S256x2048) ![0, o] S256x256.size inb) h1 : Memref sig .tc .vmem S256x256 .bf16).view.WordExact}
    {hdst : (xrM.slice (Rect.unit (s := S256x2048) ![0, o] S256x256.size inb) h2 : Memref sig (Dev.tc n : Thread nD τ).2.kind .vmem S256x256 .bf16).view.WordExact}
    {hsem : DmaTarget.Typed .vmem (.dma sR) (.remote (Dev.tc n : Thread nD τ) (xrM.slice (Rect.unit (s := S256x2048) ![0, o] S256x256.size inb) h2) (.dma sS) hsc)}
    {α : Type} {Q : α → sProp 𝕄} {kt : PUnit → Prog (TpuEff nD τ sig (Elt F) Λ₀ .tc) α}
    (hn : n = xp c) (ho : o = xo k) (hS : SemLoc.dma sS = csem (iXS k)) (hR : SemLoc.dma sR = csem (iXR k)) :
    iprop(records m ρ K ∗ xsP c k fullShare.left (XS m ρ c) ∗ sxtok c k ∗ owed c (.inr (.inl k) :: l))
      ⊢ iprop(((cred (tallyAt (kcell (c, iXS k)) () NX) ∗ owed c l) -∗ WP c (kt ⟨⟩) Q)
          -∗ WP c (.op (.enqueueDma (xsM.slice (Rect.unit (s := S256x2048) ![0, o] S256x256.size inb) h1)
              (.remote (Dev.tc n : Thread nD τ) (xrM.slice (Rect.unit (s := S256x2048) ![0, o] S256x256.size inb) h2) (.dma sS) hsc) (.dma sR) hsrc hdst hsem) kt) Q) := by
  subst hn; subst ho
  obtain rfl := SemLoc.dma.inj hS
  obtain rfl := SemLoc.dma.inj hR
  unfold sxtok owed xsP
  iintro ⟨#HR, Hs, ⟨⟨%fd, Hd⟩, Ht1, Ht2⟩, ⟨%W, HO⟩⟩
  ihave #HI1 := (records_inv m ρ K (c, iXS k)) $$ HR
  ihave #HI2 := (records_inv m ρ K (xp c, iXR k)) $$ HR
  ihave #Hr1 := (records_reached m ρ K (c, iXS k)) $$ HR
  ihave #Hr2 := (records_reached m ρ K (xp c, iXR k)) $$ HR
  unfold xrP
  iintro Hk
  iapply (Rounds.wp_send_pointsTo 𝒱₀ ER (sch m ρ) (c : Thread nD τ) none (κ₁ := K (c, iXS k)) (κ₂ := K (xp c, iXR k))
    (r₁ := 0) (r₂ := 0) (d₁ := false) (d₂ := false) (fd := fd) (fs := XS m ρ c)
    (mem_dut_false m ρ c (iXS k)) (mem_dut_false m ρ (xp c) (iXR k))
    () () NX (NX_eq k) (amount_at m ρ c (iXS k) false) (amount_at m ρ (xp c) (iXR k) false) (owe c l) rfl (W := W)
    (by rw [payload_at m ρ c (iXS k) false]; exact BI.Entails.refl _)
    (by
      rw [payload_at m ρ (xp c) (iXR k) false]
      unfold pay xrP
      rw [xp_xp]
      refine Entails.of_eq (pointsTo_congr fun i hi => ?_)
      exact landed_x k fd (XS m ρ c) i (by rw [← View.set_slice_whole cc0_scratch1 (xRect k)]; exact hi))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- Half `i` of the result row sent to the `y` neighbour. -/
theorem send_y (c : Dev nD) (i : Fin 2) (l : List IT) {n : Dev nD} {o : ℕ} {sS sR : DmaSem sig}
    {inb : ∀ a, (![0, o] : Fin 2 → ℕ) a + S256x512.size a ≤ S256x1024.size a} {h1 h2}
    {hsc : (yrM.slice (Rect.unit (s := S256x1024) ![0, o] S256x512.size inb) h2 : Memref sig (Dev.tc n : Thread nD τ).2.kind .vmem S256x512 .bf16).view.ref.isScScratch = false}
    {hsrc : (ysM.slice (Rect.unit (s := S256x1024) ![0, o] S256x512.size inb) h1 : Memref sig .tc .vmem S256x512 .bf16).view.WordExact}
    {hdst : (yrM.slice (Rect.unit (s := S256x1024) ![0, o] S256x512.size inb) h2 : Memref sig (Dev.tc n : Thread nD τ).2.kind .vmem S256x512 .bf16).view.WordExact}
    {hsem : DmaTarget.Typed .vmem (.dma sR) (.remote (Dev.tc n : Thread nD τ) (yrM.slice (Rect.unit (s := S256x1024) ![0, o] S256x512.size inb) h2) (.dma sS) hsc)}
    {α : Type} {Q : α → sProp 𝕄} {kt : PUnit → Prog (TpuEff nD τ sig (Elt F) Λ₀ .tc) α}
    (hn : n = yp c) (ho : o = yo i) (hS : SemLoc.dma sS = csem (iYS i)) (hR : SemLoc.dma sR = csem (iYR i)) :
    iprop(records m ρ K ∗ ysP c i (YS m ρ c) ∗ sytok c i ∗ owed c (.inr (.inr i) :: l))
      ⊢ iprop(((cred (tallyAt (kcell (c, iYS i)) () NY) ∗ owed c l) -∗ WP c (kt ⟨⟩) Q)
          -∗ WP c (.op (.enqueueDma (ysM.slice (Rect.unit (s := S256x1024) ![0, o] S256x512.size inb) h1)
              (.remote (Dev.tc n : Thread nD τ) (yrM.slice (Rect.unit (s := S256x1024) ![0, o] S256x512.size inb) h2) (.dma sS) hsc) (.dma sR) hsrc hdst hsem) kt) Q) := by
  subst hn; subst ho
  obtain rfl := SemLoc.dma.inj hS
  obtain rfl := SemLoc.dma.inj hR
  unfold sytok owed ysP
  iintro ⟨#HR, Hs, ⟨⟨%fd, Hd⟩, Ht1, Ht2⟩, ⟨%W, HO⟩⟩
  ihave #HI1 := (records_inv m ρ K (c, iYS i)) $$ HR
  ihave #HI2 := (records_inv m ρ K (yp c, iYR i)) $$ HR
  ihave #Hr1 := (records_reached m ρ K (c, iYS i)) $$ HR
  ihave #Hr2 := (records_reached m ρ K (yp c, iYR i)) $$ HR
  unfold yrP
  iintro Hk
  iapply (Rounds.wp_send_pointsTo 𝒱₀ ER (sch m ρ) (c : Thread nD τ) none (κ₁ := K (c, iYS i)) (κ₂ := K (yp c, iYR i))
    (r₁ := 0) (r₂ := 0) (d₁ := false) (d₂ := false) (fd := fd) (fs := YS m ρ c)
    (mem_dut_false m ρ c (iYS i)) (mem_dut_false m ρ (yp c) (iYR i))
    () () NY (NY_eq i) (amount_at m ρ c (iYS i) false) (amount_at m ρ (yp c) (iYR i) false) (owe c l) rfl (W := W)
    (by rw [payload_at m ρ c (iYS i) false]; exact BI.Entails.refl _)
    (by
      rw [payload_at m ρ (yp c) (iYR i) false]
      unfold pay yrP
      rw [yp_yp]
      refine Entails.of_eq (pointsTo_congr fun j hj => ?_)
      exact landed_y i fd (YS m ρ c) j (by rw [← View.set_slice_whole cc0_scratch4 (yRect i)]; exact hj))) $$ [Hs Hd HO Ht1 Ht2]
  · isplitr; · iexact HI1
    isplitr; · iexact HI2
    isplitl [Hs]; · iexact Hs
    isplitl [Hd]; · iexact Hd
    isplitl [HO]; · iexact HO
    isplitl [Ht1]; · iexact Ht1
    isplitr; · iexact Hr1
    isplitl [Ht2]; · iexact Ht2
    iexact Hr2
  iintro ⟨Hc, HO⟩
  iapply Hk
  isplitl [Hc]; · iexact Hc
  iexists W; iexact HO

/-- A copy waited for, at any of the twenty copy cells: its payload comes, and the cell closes with its counter at zero. -/
theorem wait_dma (c : Dev nD) (j) (l : List IT) {s : DmaSem sig} {sp sp' : Space} {sh sh' : Shape} {e e' : EltTy}
    {src : Memref sig .tc sp' sh' e'} {dst : Memref sig .tc sp sh e} {hsrc : src.view.WordExact} {hdst : dst.view.WordExact}
    {α : Type} {Q : α → sProp 𝕄} {kt : PUnit → Prog (TpuEff nD τ sig (Elt F) Λ₀ .tc) α}
    (hs : SemLoc.dma s = csem (.inr j)) (hN : dst.view.dmaCredit = amt (.inr j)) (hl : ∀ a ∈ l, lvI (.inr j) < lvI (idx a)) :
    iprop(records m ρ K ∗ wtok c (.inr j) (amt (.inr j)) ∗ owed c l)
      ⊢ iprop(((pay m ρ c (.inr j) false ∗ semVal (kcell (c, .inr j)) 0 ∗ owed c l) -∗ WP c (kt ⟨⟩) Q)
          -∗ WP c (.op (.waitDma2 s src dst hsrc hdst) kt) Q) := by
  unfold wtok owed
  iintro ⟨#HR, ⟨Hc, Hat⟩, ⟨%W, HO⟩⟩ Hk
  ihave #HI := (records_inv m ρ K (c, .inr j)) $$ HR
  ihave #Hlev := (records_lev m ρ K) $$ HR
  have hw : ∀ Kt : PUnit → sProp 𝕄, wpE (defs₀ (F := F)) 𝒱₀ (c : Thread nD τ) none Set.univ (.waitDma2 s src dst hsrc hdst) Kt
      = waitSpec (c : Thread nD τ) Set.univ (csem (.inr j)) (amt (.inr j)) Kt := fun Kt => by
    rw [← hs, ← hN]; exact wpE_waitDma2_eq 𝒱₀ (c : Thread nD τ) none Set.univ Kt
  iapply (Rounds.wp_wait_rest_token 𝒱₀ ER (sch m ρ) (c : Thread nD τ) none (κ := K (c, .inr j)) hw (Set.mem_univ _) ()
      (O := owe c l) (W := W) (R := 0) (m := 0) (T := ∅) (by rw [Nat.zero_add]; exact (expect_dma m ρ c j).symm)) $$ [Hc HO Hat]
  · isplitr; · iexact HI
    isplitl [Hc]; · iexact Hc
    isplitl [HO]; · iexact HO
    isplitr
    · iapply (mayWait c (csem (.inr j)) l (lvI (.inr j)) (by rw [dec_csem]; exact le_refl _) hl); iexact Hlev
    iexact Hat
  iintro ⟨HO, Hat, -, Hpay⟩
  ihave Hp := (Entails.of_eq (rest_dma m ρ c j)) $$ Hpay
  imod (Rounds.cell_close ER (sch m ρ) (Set.mem_univ (K (c, .inr j))) (fun h => h) (R := 0 + 1) (duties_later m ρ (kcell (c, .inr j)))) $$ [Hat] with Hz
  · isplitr; · iexact HI
    iexact Hat
  iapply Hk
  isplitl [Hp]; · iexact Hp
  isplitl [Hz]; · iexact Hz
  iexists _; iexact HO

end Cert.MlaProof

end
-- ==== Proof.Moves.lean ====
/-
# The barrier, the buffers cut and joined, loads and stores

The rest of the rules the run uses: the barrier's signals and its wait, a buffer cut into the pieces the copies move and
put together again, a whole buffer loaded, a chunk of keys or values loaded, one more head stored.
-/
module

public import proofs.«01_k».proof.Proof.Steps

@[expose] public section

noncomputable section

namespace Cert.MlaProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-! ## The barrier -/

theorem mem_dut_bar (c : Dev nD) (b : Bool) : b ∈ (sch (F := F) m ρ).duties (kcell (c, iB)) 0 := by
  rw [duties_at]; exact Finset.mem_univ _

/-- A unit to the barrier of the neighbour along one axis, with the payload that neighbour's copies will write. -/
theorem signal (c : Dev nD) (b : Bool) (l : List IT) {n : Dev nD} {k' : ℤ} (hn : n = dst (.inl b) c) (hk : k' = 1)
    {α : Type} {Q : α → sProp 𝕄} {kt : PUnit → Prog (TpuEff nD τ sig (Elt F) Λ₀ .tc) α} :
    iprop(records m ρ K ∗ owed c (.inl b :: l) ∗ dutyTok ER (kcell (dst (.inl b) c, iB)) 0 b ∗ pay m ρ (dst (.inl b) c) iB b)
      ⊢ iprop((owed c l -∗ WP c (kt ⟨⟩) Q) -∗ WP c (.op (.semSignal (n : Thread nD τ) barS k') kt) Q) := by
  subst hn; subst hk
  unfold owed
  iintro ⟨#HR, ⟨%W, HO⟩, Ht, Hp⟩
  ihave #HI := (records_inv m ρ K (dst (.inl b) c, iB)) $$ HR
  ihave #Hr := (records_reached m ρ K (dst (.inl b) c, iB)) $$ HR
  iintro Hk
  iapply (Rounds.wp_signal 𝒱₀ ER (sch m ρ) (c : Thread nD τ) none (dst := ((dst (.inl b) c : Dev nD) : Thread nD τ)) (κ := K (dst (.inl b) c, iB))
      (k' := 1) (d := b) (mem_dut_bar m ρ _ b) (amount_at m ρ (dst (.inl b) c) iB b) () (owe c l) rfl) $$ [HO Ht Hp]
  · isplitr; · iexact HI
    isplitl [HO]; · iexact HO
    isplitl [Ht]; · iexact Ht
    isplitl [Hp]
    · iapply (Entails.of_eq (show pay m ρ (dst (.inl b) c) iB b = (sch m ρ).payload (((dst (.inl b) c : Dev nD) : Thread nD τ), SemLoc.reg barS) 0 b from (payload_at m ρ (dst (.inl b) c) iB b).symm)); iexact Hp
    iexact Hr
  iintro HO
  iapply Hk
  iexists W; iexact HO

/-- The barrier's wait: both neighbours' landing pieces come, and the cell closes. -/
theorem wait_bar (c : Dev nD) (l : List IT) {k' : ℤ} (hk : k' = 2) (hl : ∀ a ∈ l, 1 < lvI (idx a))
    {α : Type} {Q : α → sProp 𝕄} {kt : PUnit → Prog (TpuEff nD τ sig (Elt F) Λ₀ .tc) α} :
    iprop(records m ρ K ∗ wtok c iB 2 ∗ owed c l)
      ⊢ iprop(((pay m ρ c iB false ∗ pay m ρ c iB true ∗ semVal (kcell (c, iB)) 0 ∗ owed c l) -∗ WP c (kt ⟨⟩) Q)
          -∗ WP c (.op (.semWait barS k') kt) Q) := by
  subst hk
  unfold wtok owed
  iintro ⟨#HR, ⟨Hc, Hat⟩, ⟨%W, HO⟩⟩ Hk
  ihave #HI := (records_inv m ρ K (c, iB)) $$ HR
  ihave #Hlev := (records_lev m ρ K) $$ HR
  iapply (Rounds.wp_wait_rest_token 𝒱₀ ER (sch m ρ) (c : Thread nD τ) none (κ := K (c, iB)) (wpE_semWait_eq 𝒱₀ (c : Thread nD τ) none Set.univ) (Set.mem_univ _) ()
      (O := owe c l) (W := W) (R := 0) (m := 0) (T := ∅) (by rw [Nat.zero_add]; exact (expect_bar m ρ c).symm)) $$ [Hc HO Hat]
  · isplitr; · iexact HI
    isplitl [Hc]; · iexact Hc
    isplitl [HO]; · iexact HO
    isplitr
    · iapply (mayWait c (csem iB) l (lvI iB) (by rw [dec_csem]; exact le_refl _) hl); iexact Hlev
    iexact Hat
  iintro ⟨HO, Hat, -, Hpay⟩
  ihave Hp := (Entails.of_eq (show bigSep ((sch m ρ).duties ((c : Thread nD τ), SemLoc.reg barS) 0 \ ∅) (fun d => (sch m ρ).payload ((c : Thread nD τ), SemLoc.reg barS) 0 d) = _ from rest_bar m ρ c)) $$ Hpay
  icases Hp with ⟨Hp1, Hp2⟩
  imod (Rounds.cell_close ER (sch m ρ) (Set.mem_univ (K (c, iB))) (fun h => h) (R := 0 + 1) (duties_later m ρ (kcell (c, iB)))) $$ [Hat] with Hz
  · isplitr; · iexact HI
    iexact Hat
  iapply Hk
  isplitl [Hp1]; · iexact Hp1
  isplitl [Hp2]; · iexact Hp2
  isplitl [Hz]; · iexact Hz
  iexists _; iexact HO

/-! ## Buffers cut and joined -/

/-- A whole buffer of device `c`. -/
abbrev own (c : Dev nD) (b : Ref sig .tc) (q : PosShare TreeShare) (f : b.ty.Contents (Elt F)) : sProp 𝕄 :=
  ((c : Thread nD τ).loc b) ↦{q} f

theorem xsP_eq (c : Dev nD) (k : Fin 8) (q : PosShare TreeShare) (f : FVec F S256x2048 .bf16) :
    xsP c k q f = ((c : Thread nD τ).loc cc0_scratch0 ↦[(xRect k).set]{q} f) :=
  congrArg (fun S : Finset S256x2048.Idx => ((c : Thread nD τ).loc cc0_scratch0 ↦[S]{q} f : sProp 𝕄)) (View.set_slice_whole cc0_scratch0 (xRect k))
theorem xrP_eq (c : Dev nD) (k : Fin 8) (f : FVec F S256x2048 .bf16) :
    xrP c k f = ((c : Thread nD τ).loc cc0_scratch1 ↦[(xRect k).set]{fullShare} f) :=
  congrArg (fun S : Finset S256x2048.Idx => ((c : Thread nD τ).loc cc0_scratch1 ↦[S]{fullShare} f : sProp 𝕄)) (View.set_slice_whole cc0_scratch1 (xRect k))
theorem ysP_eq (c : Dev nD) (k : Fin 2) (f : FVec F S256x1024 .bf16) :
    ysP c k f = ((c : Thread nD τ).loc cc0_scratch3 ↦[(yRect k).set]{fullShare} f) :=
  congrArg (fun S : Finset S256x1024.Idx => ((c : Thread nD τ).loc cc0_scratch3 ↦[S]{fullShare} f : sProp 𝕄)) (View.set_slice_whole cc0_scratch3 (yRect k))
theorem yrP_eq (c : Dev nD) (k : Fin 2) (f : FVec F S256x1024 .bf16) :
    yrP c k f = ((c : Thread nD τ).loc cc0_scratch4 ↦[(yRect k).set]{fullShare} f) :=
  congrArg (fun S : Finset S256x1024.Idx => ((c : Thread nD τ).loc cc0_scratch4 ↦[S]{fullShare} f : sProp 𝕄)) (View.set_slice_whole cc0_scratch4 (yRect k))

theorem cut_xs (c : Dev nD) (q : PosShare TreeShare) (f : FVec F S256x2048 .bf16) :
    own c cc0_scratch0 q f = bigSep Finset.univ fun k : Fin 8 => xsP c k q f := by
  unfold own
  rw [← xRect_cover, pointsTo_biUnion _ _ (fun k _ k' _ h => xRect_disjoint k k' h)]
  exact bigSep_congr fun k _ => (xsP_eq c k q f).symm
theorem cut_xr (c : Dev nD) (f : FVec F S256x2048 .bf16) :
    own c cc0_scratch1 fullShare f = bigSep Finset.univ fun k : Fin 8 => xrP c k f := by
  unfold own
  rw [← xRect_cover, pointsTo_biUnion _ _ (fun k _ k' _ h => xRect_disjoint k k' h)]
  exact bigSep_congr fun k _ => (xrP_eq c k f).symm
theorem cut_ys (c : Dev nD) (f : FVec F S256x1024 .bf16) :
    own c cc0_scratch3 fullShare f = bigSep Finset.univ fun i : Fin 2 => ysP c i f := by
  unfold own
  rw [← yRect_cover, pointsTo_biUnion _ _ (fun k _ k' _ h => yRect_disjoint k k' h)]
  exact bigSep_congr fun k _ => (ysP_eq c k f).symm
theorem cut_yr (c : Dev nD) (f : FVec F S256x1024 .bf16) :
    own c cc0_scratch4 fullShare f = bigSep Finset.univ fun i : Fin 2 => yrP c i f := by
  unfold own
  rw [← yRect_cover, pointsTo_biUnion _ _ (fun k _ k' _ h => yRect_disjoint k k' h)]
  exact bigSep_congr fun k _ => (yrP_eq c k f).symm

theorem halve (c : Dev nD) (b : Ref sig .tc) (f : b.ty.Contents (Elt F)) :
    own c b fullShare f = iprop(own c b fullShare.left f ∗ own c b fullShare.right f) :=
  (pointsTo_share (PosShare.mem_left_op_right fullShare)).1.antisymm (pointsTo_share (PosShare.mem_left_op_right fullShare)).2

/-! ## Loads and stores -/

/-- A buffer held whole loaded through any rectangle: the program goes on at what the rectangle reads. -/
theorem load_as (c : Dev nD) {cs : CoreSpace} {s : Shape} {e : EltTy} {mm : Memref sig .tc cs s e} {r : LoadRect s} {hl : mm.view.LoadsAt r}
    (q : PosShare TreeShare) (f : Buf (Elt F) (mm.view.loc (c : Thread nD τ))) {g : r.shape.Idx → Elt F e} (h : mm.view.readAt (Elt F) r f = g)
    {α : Type} {Q : α → sProp 𝕄} {kt : (r.shape.Idx → Elt F e) → Prog (TpuEff nD τ sig (Elt F) Λ₀ .tc) α} :
    (mm.view.loc (c : Thread nD τ) ↦{q} f) ⊢ iprop(((mm.view.loc (c : Thread nD τ) ↦{q} f) -∗ WP c (kt g) Q) -∗ WP c (.op (.load mm r hl) kt) Q) := by
  subst h
  exact wp_load 𝒱₀ (c : Thread nD τ) none Set.univ (m := mm) (Finset.subset_univ _)

/-- A buffer held whole stored to through a rectangle. -/
theorem store_as (c : Dev nD) {cs : CoreSpace} {s : Shape} {e : EltTy} {mm : Memref sig .tc cs s e} {r : Rect s} {w : r.shape.Idx → Elt F e} {hx : (mm.access r).Stores Finset.univ} {hm}
    (f : Buf (Elt F) ((mm.access r).loc (c : Thread nD τ))) {g : Buf (Elt F) ((mm.access r).loc (c : Thread nD τ))} (h : (mm.access r).write (Elt F) f w Finset.univ = g)
    {α : Type} {Q : α → sProp 𝕄} {kt : PUnit → Prog (TpuEff nD τ sig (Elt F) Λ₀ .tc) α} :
    ((mm.access r).loc (c : Thread nD τ) ↦{fullShare} f) ⊢ iprop((((mm.access r).loc (c : Thread nD τ) ↦{fullShare} g) -∗ WP c (kt ⟨⟩) Q)
      -∗ WP c (.op (.store mm r w Finset.univ hx hm) kt) Q) := by
  subst h
  exact wp_store 𝒱₀ (c : Thread nD τ) none Set.univ (m := mm) (Finset.subset_univ _)

/-- 256 columns of the key/value send buffer loaded while a copy may be reading them; -/
theorem load_xs (c : Dev nD) (q : PosShare TreeShare) (f : FVec F S256x2048 .bf16) {o : ℕ}
    {inb : ∀ a, (![0, o] : Fin 2 → ℕ) a + S256x256.size a ≤ S256x2048.size a} (ho : o + 256 ≤ 2048) {hl}
    {α : Type} {Q : α → sProp 𝕄} {kt : Vec F S256x256 .bf16 → Prog (TpuEff nD τ sig (Elt F) Λ₀ .tc) α} :
    own c cc0_scratch0 q f ⊢ iprop((own c cc0_scratch0 q f -∗ WP c (kt (chunk f o ho)) Q)
      -∗ WP c (.op (.load xsM (Rect.unit (s := S256x2048) ![0, o] S256x256.size inb).toLoadRect hl) kt) Q) := by
  rw [← read_xs f inb ho]
  exact wp_load 𝒱₀ (c : Thread nD τ) none Set.univ (m := xsM) (Finset.subset_univ _)

theorem setOn_xr (S : Finset S256x2048.Idx) : xrM.view.setOn S = S := Finset.map_refl

/-- a landed chunk loaded. -/
theorem load_xr (c : Dev nD) (k : Fin 8) (f : FVec F S256x2048 .bf16) {o : ℕ} (h : o = xo k)
    {inb : ∀ a, (![0, o] : Fin 2 → ℕ) a + S256x256.size a ≤ S256x2048.size a} (ho : o + 256 ≤ 2048) {hl}
    {α : Type} {Q : α → sProp 𝕄} {kt : Vec F S256x256 .bf16 → Prog (TpuEff nD τ sig (Elt F) Λ₀ .tc) α} :
    xrP c k f ⊢ iprop((xrP c k f -∗ WP c (kt (chunk f o ho)) Q)
      -∗ WP c (.op (.load xrM (Rect.unit (s := S256x2048) ![0, o] S256x256.size inb).toLoadRect hl) kt) Q) := by
  subst h
  rw [← read_xr f inb ho]
  unfold xrP
  exact wp_load 𝒱₀ (c : Thread nD τ) none Set.univ (m := xrM) (le_of_eq (by rw [setOn_xr]; exact (View.set_slice_whole cc0_scratch1 (xRect k)).symm))

/-- The attention output with its first `n` heads in place. -/
def heads (c : Dev nD) (n : ℕ) : sProp 𝕄 :=
  iprop(∃ f : FVec F S256x1024 .bf16, ⌜∀ i : S256x1024.Idx, (i 1).val < 64 * n → f i = OB m ρ c i⌝ ∗ own c cc0_scratch2 fullShare f)

/-- One more head stored (the kernel reads the old entries first and drops them). -/
theorem head_step (c : Dev nD) (h : Fin 16) (n : ℕ) (hn : n = h.val) {o : ℕ} (ho : o = 64 * h.val) {inb inb' : ∀ a, (![0, o] : Fin 2 → ℕ) a + S256x64.size a ≤ S256x1024.size a}
    {w : FVec F S256x64 .bf16} (hw : w = HD m ρ c h) {hl hx hm}
    {α : Type} {Q : α → sProp 𝕄} {kt : PUnit → Prog (TpuEff nD τ sig (Elt F) Λ₀ .tc) α} :
    heads m ρ c n ⊢ iprop((heads m ρ c (n + 1) -∗ WP c (kt ⟨⟩) Q)
      -∗ WP c (.op (.load obM (Rect.unit (s := S256x1024) ![0, o] S256x64.size inb).toLoadRect hl)
        fun _ => .op (.store obM (Rect.unit (s := S256x1024) ![0, o] S256x64.size inb') w Finset.univ hx hm) kt) Q) := by
  subst hw; subst hn
  unfold heads
  iintro ⟨%f, %hf, H⟩ Hk
  iapply (wp_load 𝒱₀ (c : Thread nD τ) none Set.univ (m := obM) (Finset.subset_univ _)) $$ H; iintro H
  iapply (wp_store 𝒱₀ (c : Thread nD τ) none Set.univ (m := obM) (r := Rect.unit (s := S256x1024) ![0, o] S256x64.size inb') (w := HD m ρ c h) (Mk := Finset.univ) (Finset.subset_univ _)) $$ H; iintro H
  iapply Hk
  iexists _
  isplitr
  · ipureintro
    exact head_upd m ρ c h ho f ⟨rfl, inb'⟩ hf
  iapply (Entails.of_eq (congrArg (own c cc0_scratch2 fullShare) (View.write_whole_slice_unit (Val := Elt F) cc0_scratch2 ![0, o] S256x64.size inb' f (HD m ρ c h)))); iexact H

/-! ## The waits by what they bring -/

/-- A chunk sent: half of its share comes back. -/
theorem wait_xs (c : Dev nD) (k : Fin 8) (l : List IT) {s : DmaSem sig} {sp sp' : Space} {sh sh' : Shape} {e e' : EltTy}
    {src : Memref sig .tc sp' sh' e'} {dst : Memref sig .tc sp sh e} {hsrc : src.view.WordExact} {hdst : dst.view.WordExact}
    {α : Type} {Q : α → sProp 𝕄} {kt : PUnit → Prog (TpuEff nD τ sig (Elt F) Λ₀ .tc) α}
    (hs : SemLoc.dma s = csem (iXS k)) (hN : dst.view.dmaCredit = NX) (hl : ∀ a ∈ l, lvI (iXS k) < lvI (idx a)) :
    iprop(records m ρ K ∗ wtok c (iXS k) NX ∗ owed c l)
      ⊢ iprop(((xsP c k fullShare.left (XS m ρ c) ∗ semVal (kcell (c, iXS k)) 0 ∗ owed c l) -∗ WP c (kt ⟨⟩) Q)
          -∗ WP c (.op (.waitDma2 s src dst hsrc hdst) kt) Q) := wait_dma m ρ K c _ l hs hN hl

/-- A chunk received. -/
theorem wait_xr (c : Dev nD) (k : Fin 8) (l : List IT) {s : DmaSem sig} {sp sp' : Space} {sh sh' : Shape} {e e' : EltTy}
    {src : Memref sig .tc sp' sh' e'} {dst : Memref sig .tc sp sh e} {hsrc : src.view.WordExact} {hdst : dst.view.WordExact}
    {α : Type} {Q : α → sProp 𝕄} {kt : PUnit → Prog (TpuEff nD τ sig (Elt F) Λ₀ .tc) α}
    (hs : SemLoc.dma s = csem (iXR k)) (hN : dst.view.dmaCredit = NX) (hl : ∀ a ∈ l, lvI (iXR k) < lvI (idx a)) :
    iprop(records m ρ K ∗ wtok c (iXR k) NX ∗ owed c l)
      ⊢ iprop(((xrP c k (XS m ρ (xp c)) ∗ semVal (kcell (c, iXR k)) 0 ∗ owed c l) -∗ WP c (kt ⟨⟩) Q)
          -∗ WP c (.op (.waitDma2 s src dst hsrc hdst) kt) Q) := wait_dma m ρ K c _ l hs hN hl

/-- A half row sent. -/
theorem wait_ys (c : Dev nD) (k : Fin 2) (l : List IT) {s : DmaSem sig} {sp sp' : Space} {sh sh' : Shape} {e e' : EltTy}
    {src : Memref sig .tc sp' sh' e'} {dst : Memref sig .tc sp sh e} {hsrc : src.view.WordExact} {hdst : dst.view.WordExact}
    {α : Type} {Q : α → sProp 𝕄} {kt : PUnit → Prog (TpuEff nD τ sig (Elt F) Λ₀ .tc) α}
    (hs : SemLoc.dma s = csem (iYS k)) (hN : dst.view.dmaCredit = NY) (hl : ∀ a ∈ l, lvI (iYS k) < lvI (idx a)) :
    iprop(records m ρ K ∗ wtok c (iYS k) NY ∗ owed c l)
      ⊢ iprop(((ysP c k (YS m ρ c) ∗ semVal (kcell (c, iYS k)) 0 ∗ owed c l) -∗ WP c (kt ⟨⟩) Q)
          -∗ WP c (.op (.waitDma2 s src dst hsrc hdst) kt) Q) := wait_dma m ρ K c _ l hs hN hl

/-- A half row received. -/
theorem wait_yr (c : Dev nD) (k : Fin 2) (l : List IT) {s : DmaSem sig} {sp sp' : Space} {sh sh' : Shape} {e e' : EltTy}
    {src : Memref sig .tc sp' sh' e'} {dst : Memref sig .tc sp sh e} {hsrc : src.view.WordExact} {hdst : dst.view.WordExact}
    {α : Type} {Q : α → sProp 𝕄} {kt : PUnit → Prog (TpuEff nD τ sig (Elt F) Λ₀ .tc) α}
    (hs : SemLoc.dma s = csem (iYR k)) (hN : dst.view.dmaCredit = NY) (hl : ∀ a ∈ l, lvI (iYR k) < lvI (idx a)) :
    iprop(records m ρ K ∗ wtok c (iYR k) NY ∗ owed c l)
      ⊢ iprop(((yrP c k (YS m ρ (yp c)) ∗ semVal (kcell (c, iYR k)) 0 ∗ owed c l) -∗ WP c (kt ⟨⟩) Q)
          -∗ WP c (.op (.waitDma2 s src dst hsrc hdst) kt) Q) := wait_dma m ρ K c _ l hs hN hl

end Cert.MlaProof

end
-- ==== Proof.PartsA.lean ====
/-
# The kernel up to its first receive

The printed kernel body is a chain of parts. Each is run here from what it needs to what it leaves, at a symbolic
device `c`, to any postcondition `Q` of the values it returns. This module takes the parts up to the first receive:
the barrier, the keys and values formed and sent, the queries.
-/
module

public import proofs.«01_k».proof.Proof.Moves

@[expose] public section

noncomputable section

namespace Cert.MlaProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-- Something over the kernel's buffers and semaphores, -/
abbrev Bufs (β : Type 1) : Type 1 :=
  (arg0 : Memref sig .tc .vmem S2x256x1024 .bf16) → arg0.IsWhole → (arg1 : Memref sig .tc .vmem S1024x64 .bf16) → arg1.IsWhole → (arg2 : Memref sig .tc .vmem S64x1024 .bf16) → arg2.IsWhole → (arg3 : Memref sig .tc .vmem S64x1024 .bf16) → arg3.IsWhole → (arg4 : Memref sig .tc .vmem S1024x1024 .bf16) → arg4.IsWhole → (arg5 : Memref sig .tc .vmem S1024x512 .bf16) → arg5.IsWhole → (arg6 : Memref sig .tc .vmem S1024x32 .bf16) → arg6.IsWhole → (arg7 : Memref sig .tc .vmem S1024x1024 .bf16) → arg7.IsWhole → (arg8 : Memref sig .tc .vmem S2x256x1024 .f32) → arg8.IsWhole → (arg9 : Memref sig .tc .vmem S256x2048 .bf16) → arg9.IsWhole → (arg10 : Memref sig .tc .vmem S256x2048 .bf16) → arg10.IsWhole → (arg11 : Memref sig .tc .vmem S256x1024 .bf16) → arg11.IsWhole → (arg12 : Memref sig .tc .vmem S256x1024 .bf16) → arg12.IsWhole → (arg13 : Memref sig .tc .vmem S256x1024 .bf16) → arg13.IsWhole
    → DmaSems sig S8 → DmaSems sig S8 → DmaSems sig S2 → DmaSems sig S2 → β
/-- at the buffers and semaphores the kernel is called with. -/
abbrev here {β : Type 1} (p : Bufs β) : β :=
  p (Memref.whole cc0_stg0_0) (Memref.isWhole_whole _) (Memref.whole cc0_stg1_0) (Memref.isWhole_whole _) (Memref.whole cc0_stg2_0) (Memref.isWhole_whole _) (Memref.whole cc0_stg3_0) (Memref.isWhole_whole _) (Memref.whole cc0_stg4_0) (Memref.isWhole_whole _) (Memref.whole cc0_stg5_0) (Memref.isWhole_whole _) (Memref.whole cc0_stg6_0) (Memref.isWhole_whole _) (Memref.whole cc0_stg7_0) (Memref.isWhole_whole _) (Memref.whole cc0_stg8_0) (Memref.isWhole_whole _) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) cc0_scratch5 cc0_scratch6 cc0_scratch7 cc0_scratch8

/-- From `pre`, the program `p` on device `c` returns `a` and leaves `post`. -/
abbrev Run (c : Dev nD) {α : Type} (pre : sProp 𝕄) (p : Prog (TpuEff nD τ sig (Elt F) Λ₀ .tc) α) (a : α) (post : sProp 𝕄) : Prop :=
  ∀ Q : α → sProp 𝕄, iprop(pre ∗ (post -∗ Q a)) ⊢ WP c p Q

theorem zero2 : (![0, 0] : Fin 2 → ℕ) = fun _ => 0 := by funext a; fin_cases a <;> rfl

/-- The device's two coordinates as the kernel computes them, and the neighbours' names as the generated facts give them. -/
abbrev w2 (c : Dev nD) : BitVec 32 := Scalar.remsi (Scalar.divsi (Dev.word c) 2#32) 2#32
abbrev w5 (c : Dev nD) : BitVec 32 := Scalar.remsi (Scalar.divsi (Dev.word c) 1#32) 2#32

theorem dev_x (c : Dev nD) {n : ℕ} {h : n < nD} (e : n = ((c.val % 2) + 2) - 2 * (c.val / 2)) : (⟨n, h⟩ : Dev nD) = xp c := by
  subst e; revert c; decide
theorem dev_y (c : Dev nD) {n : ℕ} {h : n < nD} (e : n = (2 * (c.val / 2) + 1) - (c.val % 2)) : (⟨n, h⟩ : Dev nD) = yp c := by
  subst e; revert c; decide

/-- A program that has returned. -/
theorem ret_step (c : Dev nD) {α : Type} (a : α) (Q : α → sProp 𝕄) : Q a ⊢ WP c (.ret a) Q := by
  unfold WP
  rw [wp_ret]
  iintro H; imodintro; iexact H

/-- The row of `x` as loaded. -/
theorem read_row (c : Dev nD) (inb : ∀ a, (k0_off1 c) a + S1x256x1024.size a ≤ S2x256x1024.size a) :
    (Memref.whole cc0_stg0_0 : Memref sig .tc .vmem S2x256x1024 .bf16).view.readAt (Elt F) (Rect.unit (s := S2x256x1024) (k0_off1 c) S1x256x1024.size inb).toLoadRect (xA m ρ c)
      = xRow m ρ c := by
  funext j
  refine congrArg (xA m ρ c) (funext fun a => Fin.ext ?_)
  match a with
  | ⟨0, _⟩ => exact congrArg (k0_off1 c 0 + ·) (Nat.one_mul _)
  | ⟨1, _⟩ => exact congrArg (k0_off1 c 1 + ·) (Nat.one_mul _)
  | ⟨2, _⟩ => exact congrArg (k0_off1 c 2 + ·) (Nat.one_mul _)

/-- A device's landing chunks, and its landing halves, whatever they hold. -/
theorem lend_xr (c : Dev nD) (f : FVec F S256x2048 .bf16) :
    own c cc0_scratch1 fullShare f ⊢ bigSep Finset.univ fun k : Fin 8 => iprop(∃ f : FVec F S256x2048 .bf16, xrP c k f) := by
  rw [cut_xr]
  have h : ∀ k : Fin 8, xrP c k f ⊢ iprop(∃ f : FVec F S256x2048 .bf16, xrP c k f) := fun k => by iintro H; iexists f; iexact H
  exact bigSep_mono fun k _ => h k
theorem lend_yr (c : Dev nD) (f : FVec F S256x1024 .bf16) :
    own c cc0_scratch4 fullShare f ⊢ bigSep Finset.univ fun i : Fin 2 => iprop(∃ f : FVec F S256x1024 .bf16, yrP c i f) := by
  rw [cut_yr]
  have h : ∀ i : Fin 2, yrP c i f ⊢ iprop(∃ f : FVec F S256x1024 .bf16, yrP c i f) := fun i => by iintro H; iexists f; iexact H
  exact bigSep_mono fun i _ => h i

/-- What is still owed once the barrier is paid. -/
abbrev lY : List IT := [.inr (.inr 0), .inr (.inr 1)]
abbrev lX : List IT := .inr (.inl 0) :: .inr (.inl 1) :: .inr (.inl 2) :: .inr (.inl 3) :: .inr (.inl 4) :: .inr (.inl 5) :: .inr (.inl 6) :: .inr (.inl 7) :: lY

theorem run_part1 (c : Dev nD) (fr : FVec F S256x2048 .bf16) (fy : FVec F S256x1024 .bf16) (fx : FVec F S256x2048 .bf16) :
    Run c iprop(records m ρ K ∗ owed c (.inl true :: .inl false :: lX) ∗ dutyTok ER (kcell (xp c, iB)) 0 true ∗ dutyTok ER (kcell (yp c, iB)) 0 false
        ∗ own c cc0_scratch1 fullShare fr ∗ own c cc0_scratch4 fullShare fy ∗ wtok c iB 2 ∗ own c cc0_stg0_0 fullShare (xA m ρ c)
        ∗ own c cc0_stg1_0 fullShare (wDkv m ρ c) ∗ own c cc0_stg2_0 fullShare (wUk m ρ c) ∗ own c cc0_scratch0 fullShare fx)
      (here (k0_part1 (F := F)))
      ⟨c, w2 c, w5 c, Scalar.subi 1#32 (w2 c), Scalar.subi 1#32 (w5 c), k0_pay1 (xRow m ρ c), lat m ρ c, k0_pay3 (xRow m ρ c) (wDkv m ρ c) (wUk m ρ c)⟩
      iprop(pay m ρ c iB false ∗ pay m ρ c iB true ∗ semVal (kcell (c, iB)) 0 ∗ owed c lX ∗ own c cc0_stg0_0 fullShare (xA m ρ c)
        ∗ own c cc0_stg1_0 fullShare (wDkv m ρ c) ∗ own c cc0_stg2_0 fullShare (wUk m ρ c) ∗ own c cc0_scratch0 fullShare fx) := by
  intro Q
  unfold lat here; rw [k0_part1_eq_skeleton]; unfold k0_part1_skel
  simp only [semSignalWord, semWaitWord, Prog.lift, Prog.bind_op, Prog.bind_ret, Prog.pure_eq_ret, wp_deviceId]
  iintro ⟨⟨#HR, HO, Ht1, Ht2, Hr, Hy, Hw, H0, H1, H2, Hx⟩, Hk⟩
  iapply (signal m ρ K c true _ (dev_x c (k0_dev1_eq c)) (by decide)) $$ [HO Ht1 Hr]
  · isplitr; · iexact HR
    isplitl [HO]; · iexact HO
    isplitl [Ht1]; · iexact Ht1
    unfold pay
    rw [show dst (.inl true) c = xp c from rfl, xp_xp]
    iapply (lend_xr c fr); iexact Hr
  iintro HO
  iapply (signal m ρ K c false _ (dev_y c (k0_dev2_eq c)) (by decide)) $$ [HO Ht2 Hy]
  · isplitr; · iexact HR
    isplitl [HO]; · iexact HO
    isplitl [Ht2]; · iexact Ht2
    unfold pay
    rw [show dst (.inl false) c = yp c from rfl, yp_yp]
    iapply (lend_yr c fy); iexact Hy
  iintro HO
  iapply (wait_bar m ρ K c lX (by decide) (by decide)) $$ [Hw HO]
  · isplitr; · iexact HR
    isplitl [Hw]; · iexact Hw
    iexact HO
  iintro ⟨Hp1, Hp2, Hz, HO⟩
  iapply (load_as c (mm := Memref.whole cc0_stg0_0) fullShare (xA m ρ c) (read_row m ρ c _)) $$ H0; iintro H0
  iapply (load_as c (mm := Memref.whole cc0_stg1_0) fullShare (wDkv m ρ c) (Memref.readAt_unit_zero (Elt F) cc0_stg1_0 zero2 _ _)) $$ H1; iintro H1
  iapply (load_as c (mm := Memref.whole cc0_stg2_0) fullShare (wUk m ρ c) (Memref.readAt_unit_zero (Elt F) cc0_stg2_0 zero2 _ _)) $$ H2; iintro H2
  iapply (load_as c (mm := xsM) fullShare fx rfl) $$ Hx; iintro Hx
  iapply (ret_step c _ Q)
  iapply Hk
  isplitl [Hp1]; · iexact Hp1
  isplitl [Hp2]; · iexact Hp2
  isplitl [Hz]; · iexact Hz
  isplitl [HO]; · iexact HO
  isplitl [H0]; · iexact H0
  isplitl [H1]; · iexact H1
  isplitl [H2]; · iexact H2
  iexact Hx

/-- A chunk ready to be sent, and what its send leaves until it is waited for. -/
def xready (c : Dev nD) (k : Fin 8) : sProp 𝕄 := iprop(xsP c k fullShare.left (XS m ρ c) ∗ sxtok c k)
abbrev xsent (c : Dev nD) (k : Fin 8) : sProp 𝕄 := cred (tallyAt (kcell (c, iXS k)) () NX)
abbrev ysent (c : Dev nD) (i : Fin 2) : sProp 𝕄 := cred (tallyAt (kcell (c, iYS i)) () NY)

theorem eight (Φ : Fin 8 → sProp 𝕄) : bigSep Finset.univ Φ = iprop(Φ 0 ∗ Φ 1 ∗ Φ 2 ∗ Φ 3 ∗ Φ 4 ∗ Φ 5 ∗ Φ 6 ∗ Φ 7) :=
  (bigSep_univ_eq_bigSepL ([0, 1, 2, 3, 4, 5, 6, 7] : List (Fin 8)) (by decide) (by decide) Φ).trans rfl
theorem two (Φ : Fin 2 → sProp 𝕄) : bigSep Finset.univ Φ = iprop(Φ 0 ∗ Φ 1) :=
  (bigSep_univ_eq_bigSepL ([0, 1] : List (Fin 2)) (by decide) (by decide) Φ).trans rfl

/-- The send buffer full, one half of its share dealt out to the eight sends. -/
theorem deal_x (c : Dev nD) : iprop(own c cc0_scratch0 fullShare (XS m ρ c) ∗ bigSep Finset.univ fun k : Fin 8 => sxtok c k)
    ⊢ iprop(own c cc0_scratch0 fullShare.right (XS m ρ c) ∗ bigSep Finset.univ fun k : Fin 8 => xready m ρ c k) := by
  unfold xready
  rw [halve, cut_xs c fullShare.left, bigSep_sep']
  iintro ⟨⟨Hl, Hr⟩, Ht⟩
  iframe Hr Hl
  iexact Ht

/-- Both halves of the send buffer stored, the first two chunks sent. -/
theorem run_part2 (c : Dev nD) (a b : BitVec 32) (fx : FVec F S256x2048 .bf16) :
    Run c iprop(records m ρ K ∗ owed c lX ∗ own c cc0_scratch0 fullShare fx ∗ own c cc0_stg3_0 fullShare (wUv m ρ c) ∗ (bigSep Finset.univ fun k => sxtok c k))
      (here (k0_part2 (F := F)) c a b (lat m ρ c) (k0_pay3 (xRow m ρ c) (wDkv m ρ c) (wUk m ρ c)))
      ⟨Scalar.muli b 2#32, 0#32⟩
      iprop(owed c (lX.drop 2) ∗ own c cc0_stg3_0 fullShare (wUv m ρ c) ∗ own c cc0_scratch0 fullShare.right (XS m ρ c) ∗ xsent c 0 ∗ xsent c 1
        ∗ xready m ρ c 2 ∗ xready m ρ c 3 ∗ xready m ρ c 4 ∗ xready m ρ c 5 ∗ xready m ρ c 6 ∗ xready m ρ c 7) := by
  intro Q
  unfold here; rw [k0_part2_eq_skeleton]; unfold k0_part2_skel
  simp only [Prog.lift, Prog.bind_op, Prog.bind_ret, Prog.pure_eq_ret]
  iintro ⟨⟨#HR, HO, Hx, H3, Ht⟩, Hk⟩
  iapply (store_as c (mm := xsM) (r := Rect.unit (s := S256x2048) ![0, 0] S256x1024.size inb_S256x2048_S256x1024_0_0) (w := k0_pay4 (k0_pay3 (xRow m ρ c) (wDkv m ρ c) (wUk m ρ c))) fx
    (View.write_whole_slice_unit (Val := Elt F) cc0_scratch0 ![0, 0] S256x1024.size inb_S256x2048_S256x1024_0_0 fx _)) $$ Hx; iintro Hx
  iapply (load_as c (mm := Memref.whole cc0_stg3_0) fullShare (wUv m ρ c) (Memref.readAt_unit_zero (Elt F) cc0_stg3_0 zero2 _ _)) $$ H3; iintro H3
  iapply (load_as c (mm := xsM) fullShare _ rfl) $$ Hx; iintro Hx
  iapply (store_as c (mm := xsM) (r := Rect.unit (s := S256x2048) ![0, 1024] S256x1024.size inb_S256x2048_S256x1024_0_1024) (w := k0_pay5 (lat m ρ c) (wUv m ρ c)) _
    ((View.write_whole_slice_unit (Val := Elt F) cc0_scratch0 ![0, 1024] S256x1024.size inb_S256x2048_S256x1024_0_1024 _ _).trans
      (show _ = XS m ρ c from sides_both (n := 1024) (N := 2048) rfl fx _ _ rfl ⟨rfl, inb_S256x2048_S256x1024_0_0⟩ _))) $$ Hx; iintro Hx
  ihave H := (deal_x m ρ c) $$ [Hx Ht]
  · iframe Hx; iexact Ht
  rw [eight]
  icases H with ⟨Hr, H0, H1, H2, H3', H4, H5, H6, H7⟩
  unfold xready
  icases H0 with ⟨Hs, Ht⟩
  iapply (send_x m ρ K c 0 (lX.drop 1) (dev_x c (k0_dev3_eq c)) rfl rfl rfl) $$ [Hs Ht HO]
  · iframe HR Hs Ht; iexact HO
  iintro ⟨Hc0, HO⟩
  icases H1 with ⟨Hs, Ht⟩
  iapply (send_x m ρ K c 1 (lX.drop 2) (dev_x c (k0_dev4_eq c)) rfl rfl rfl) $$ [Hs Ht HO]
  · iframe HR Hs Ht; iexact HO
  iintro ⟨Hc1, HO⟩
  iapply (ret_step c _ Q)
  iapply Hk
  iframe HO H3 Hr Hc0 Hc1 H2 H3' H4 H5 H6
  iexact H7

theorem run_part3 (c : Dev nD) (a b u v : BitVec 32) :
    Run c iprop(records m ρ K ∗ owed c (lX.drop 2) ∗ xready m ρ c 2 ∗ xready m ρ c 3 ∗ xready m ρ c 4)
      (here (k0_part3 (F := F)) c a b u v) ⟨Scalar.muli b 2#32, 0#32⟩
      iprop(owed c (lX.drop 5) ∗ xsent c 2 ∗ xsent c 3 ∗ xsent c 4) := by
  intro Q
  unfold here; rw [k0_part3_eq_skeleton]; unfold k0_part3_skel
  simp only [Prog.lift, Prog.bind_op, Prog.bind_ret, Prog.pure_eq_ret]
  unfold xready
  iintro ⟨⟨#HR, HO, ⟨Hs, Ht⟩, ⟨Hs', Ht'⟩, ⟨Hs'', Ht''⟩⟩, Hk⟩
  iapply (send_x m ρ K c 2 (lX.drop 3) (dev_x c (k0_dev5_eq c)) rfl rfl rfl) $$ [Hs Ht HO]
  · iframe HR Hs Ht; iexact HO
  iintro ⟨Hc0, HO⟩
  iapply (send_x m ρ K c 3 (lX.drop 4) (dev_x c (k0_dev6_eq c)) rfl rfl rfl) $$ [Hs' Ht' HO]
  · iframe HR Hs' Ht'; iexact HO
  iintro ⟨Hc1, HO⟩
  iapply (send_x m ρ K c 4 (lX.drop 5) (dev_x c (k0_dev7_eq c)) rfl rfl rfl) $$ [Hs'' Ht'' HO]
  · iframe HR Hs'' Ht''; iexact HO
  iintro ⟨Hc2, HO⟩
  iapply (ret_step c _ Q)
  iapply Hk
  iframe HO Hc0 Hc1
  iexact Hc2

theorem run_part4 (c : Dev nD) (a b u v : BitVec 32) :
    Run c iprop(records m ρ K ∗ owed c (lX.drop 5) ∗ xready m ρ c 5 ∗ xready m ρ c 6 ∗ xready m ρ c 7 ∗ own c cc0_stg4_0 fullShare (wQ m ρ c))
      (here (k0_part4 (F := F)) c a b u v) ⟨k0_pay6 (wQ m ρ c), constant S256x1024 .f32 0x00000000#32⟩
      iprop(owed c lY ∗ xsent c 5 ∗ xsent c 6 ∗ xsent c 7 ∗ own c cc0_stg4_0 fullShare (wQ m ρ c)) := by
  intro Q
  unfold here; rw [k0_part4_eq_skeleton]; unfold k0_part4_skel
  simp only [Prog.lift, Prog.bind_op, Prog.bind_ret, Prog.pure_eq_ret]
  unfold xready
  iintro ⟨⟨#HR, HO, ⟨Hs, Ht⟩, ⟨Hs', Ht'⟩, ⟨Hs'', Ht''⟩, H4⟩, Hk⟩
  iapply (send_x m ρ K c 5 (lX.drop 6) (dev_x c (k0_dev8_eq c)) rfl rfl rfl) $$ [Hs Ht HO]
  · iframe HR Hs Ht; iexact HO
  iintro ⟨Hc0, HO⟩
  iapply (send_x m ρ K c 6 (lX.drop 7) (dev_x c (k0_dev9_eq c)) rfl rfl rfl) $$ [Hs' Ht' HO]
  · iframe HR Hs' Ht'; iexact HO
  iintro ⟨Hc1, HO⟩
  iapply (send_x m ρ K c 7 lY (dev_x c (k0_dev10_eq c)) rfl rfl rfl) $$ [Hs'' Ht'' HO]
  · iframe HR Hs'' Ht''; iexact HO
  iintro ⟨Hc2, HO⟩
  iapply (load_as c (mm := Memref.whole cc0_stg4_0) fullShare (wQ m ρ c) (Memref.readAt_unit_zero (Elt F) cc0_stg4_0 zero2 _ _)) $$ H4; iintro H4
  iapply (ret_step c _ Q)
  iapply Hk
  iframe HO Hc0 Hc1 Hc2
  iexact H4

/-- The remaining operands loaded, the first two chunks received. -/
theorem run_part5 (c : Dev nD) (a b : BitVec 32) :
    Run c iprop(records m ρ K ∗ owed c lY ∗ own c cc0_stg5_0 fullShare (wQr m ρ c) ∗ own c cc0_stg6_0 fullShare (wKr m ρ c) ∗ own c cc0_stg7_0 fullShare (wO m ρ c)
        ∗ wtok c (iXR 0) NX ∗ wtok c (iXR 1) NX ∗ own c cc0_scratch0 fullShare.right (XS m ρ c))
      (here (k0_part5 (F := F)) a b (k0_pay1 (xRow m ρ c)) (k0_pay6 (wQ m ρ c)) (constant S256x1024 .f32 0x00000000#32))
      ⟨qP m ρ c, qrP m ρ c, krP m ρ c, k0_pay10 (wO m ρ c), k0_pay11 (chunk (XS m ρ c) 0 (by decide))⟩
      iprop(owed c lY ∗ own c cc0_stg5_0 fullShare (wQr m ρ c) ∗ own c cc0_stg6_0 fullShare (wKr m ρ c) ∗ own c cc0_stg7_0 fullShare (wO m ρ c)
        ∗ own c cc0_scratch0 fullShare.right (XS m ρ c) ∗ (xrP c 0 (XS m ρ (xp c)) ∗ semVal (kcell (c, iXR 0)) 0) ∗ (xrP c 1 (XS m ρ (xp c)) ∗ semVal (kcell (c, iXR 1)) 0)) := by
  intro Q
  unfold qP qrP krP here; rw [k0_part5_eq_skeleton]; unfold k0_part5_skel
  simp only [Prog.lift, Prog.bind_op, Prog.bind_ret, Prog.pure_eq_ret]
  iintro ⟨⟨#HR, HO, H5, H6, H7, Hw0, Hw1, Hx⟩, Hk⟩
  iapply (load_as c (mm := Memref.whole cc0_stg5_0) fullShare (wQr m ρ c) (Memref.readAt_unit_zero (Elt F) cc0_stg5_0 zero2 _ _)) $$ H5; iintro H5
  iapply (load_as c (mm := Memref.whole cc0_stg6_0) fullShare (wKr m ρ c) (Memref.readAt_unit_zero (Elt F) cc0_stg6_0 zero2 _ _)) $$ H6; iintro H6
  iapply (load_as c (mm := Memref.whole cc0_stg7_0) fullShare (wO m ρ c) (Memref.readAt_unit_zero (Elt F) cc0_stg7_0 zero2 _ _)) $$ H7; iintro H7
  iapply (wait_xr m ρ K c 0 lY rfl (NX_eq 0) (by decide)) $$ [Hw0 HO]
  · iframe HR Hw0; iexact HO
  iintro ⟨Hr0, Hz0, HO⟩
  iapply (wait_xr m ρ K c 1 lY rfl (NX_eq 1) (by decide)) $$ [Hw1 HO]
  · iframe HR Hw1; iexact HO
  iintro ⟨Hr1, Hz1, HO⟩
  iapply (load_xs c fullShare.right (XS m ρ c) (by decide)) $$ Hx; iintro Hx
  iapply (ret_step c _ Q)
  iapply Hk
  iframe HO H5 H6 H7 Hx Hr0 Hz0 Hr1
  iexact Hz1

end Cert.MlaProof

end
-- ==== Proof.Heads.lean ====
/-
# The sixteen heads

The parts of the kernel that receive the neighbour's keys and values four heads at a time and run the heads. Each part
is run from the values the parts before it return, in the form they are returned in; that every stored block is the
head `HD` it should be holds by unfolding both.
-/
module

public import proofs.«01_k».proof.Proof.PartsA

@[expose] public section

noncomputable section

namespace Cert.MlaProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-! ## The chunks as loaded, and the blocks of keys (`kA`, …) and values (`vA`, …) of four heads each -/

abbrev xsV (c : Dev nD) (o : ℕ) (h : o + 256 ≤ 2048 := by decide) : FVec F S256x256 .bf16 := chunk (XS m ρ c) o h
abbrev xrV (c : Dev nD) (o : ℕ) (h : o + 256 ≤ 2048 := by decide) : FVec F S256x256 .bf16 := chunk (XS m ρ (xp c)) o h
abbrev kA (c : Dev nD) : FVec F S256x256 .bf16 := k0_pay12 (k0_pay11 (xsV m ρ c 0)) (xrV m ρ c 0)
abbrev vA (c : Dev nD) : FVec F S256x256 .bf16 := k0_pay13 (xsV m ρ c 1024) (xrV m ρ c 1024)
abbrev kB (c : Dev nD) : FVec F S256x256 .bf16 := k0_pay20 (xsV m ρ c 256) (xrV m ρ c 256)
abbrev vB (c : Dev nD) : FVec F S256x256 .bf16 := k0_pay21 (xsV m ρ c 1280) (xrV m ρ c 1280)
abbrev kC (c : Dev nD) : FVec F S256x256 .bf16 := k0_pay28 (xsV m ρ c 512) (xrV m ρ c 512)
abbrev vC (c : Dev nD) : FVec F S256x256 .bf16 := k0_pay29 (xsV m ρ c 1536) (xrV m ρ c 1536)
abbrev kD (c : Dev nD) : FVec F S256x256 .bf16 := k0_pay38 (xsV m ρ c 768) (xrV m ρ c 768)
abbrev vD (c : Dev nD) : FVec F S256x256 .bf16 := k0_pay41 (k0_pay39 (xsV m ρ c 1792)) (k0_pay40 (xrV m ρ c 1792))

/-- The half of the send buffer's share that stays for loads; a landed chunk; a landed chunk with its closed cell. -/
abbrev xsH (c : Dev nD) : sProp 𝕄 := own c cc0_scratch0 fullShare.right (XS m ρ c)
abbrev xrL (c : Dev nD) (k : Fin 8) : sProp 𝕄 := xrP c k (XS m ρ (xp c))
abbrev xrZ (c : Dev nD) (k : Fin 8) : sProp 𝕄 := iprop(xrL m ρ c k ∗ semVal (kcell (c, iXR k)) 0)

/-! ## Heads 0 to 3 -/

theorem run_part6 (c : Dev nD) :
    Run c iprop(xsH m ρ c ∗ xrL m ρ c 0 ∗ xrL m ρ c 1 ∗ heads m ρ c 0)
      (here (k0_part6 (F := F)) (qP m ρ c) (qrP m ρ c) (krP m ρ c) (k0_pay11 (xsV m ρ c 0)))
      ⟨kA m ρ c, vA m ρ c, k0_pay15 (qP m ρ c) (qrP m ρ c) (krP m ρ c) (k0_pay11 (xsV m ρ c 0)) (xrV m ρ c 0), Named.named κ "scale" 0x3DD105EC#32⟩
      iprop(xsH m ρ c ∗ xrL m ρ c 0 ∗ xrL m ρ c 1 ∗ heads m ρ c 1) := by
  intro Q
  unfold here; rw [k0_part6_eq_skeleton]; unfold k0_part6_skel
  simp only [Prog.lift, Prog.bind_op, Prog.bind_ret, Prog.pure_eq_ret]
  iintro ⟨⟨Hx, H0, H1, Hh⟩, Hk⟩
  iapply (load_xr c 0 (XS m ρ (xp c)) (o := 0) rfl (by decide)) $$ H0; iintro H0
  iapply (load_xs c fullShare.right (XS m ρ c) (by decide)) $$ Hx; iintro Hx
  iapply (load_xr c 1 (XS m ρ (xp c)) (o := 1024) rfl (by decide)) $$ H1; iintro H1
  iapply (head_step m ρ c 0 0 rfl rfl (w := k0_pay14 (qP m ρ c) (qrP m ρ c) (krP m ρ c) (k0_pay11 (xsV m ρ c 0)) (xrV m ρ c 0) (xsV m ρ c 1024) (xrV m ρ c 1024)) rfl) $$ Hh; iintro Hh
  iapply (ret_step c _ Q)
  iapply Hk
  iframe Hx H0 H1
  iexact Hh

theorem run_part7 (c : Dev nD) :
    Run c iprop(heads m ρ c 1)
      (here (k0_part7 (F := F)) (qP m ρ c) (qrP m ρ c) (krP m ρ c) (kA m ρ c) (vA m ρ c)
        (k0_pay15 (qP m ρ c) (qrP m ρ c) (krP m ρ c) (k0_pay11 (xsV m ρ c 0)) (xrV m ρ c 0)) (Named.named κ "scale" 0x3DD105EC#32))
      (k0_pay18 (qP m ρ c)) iprop(heads m ρ c 3) := by
  intro Q
  unfold here; rw [k0_part7_eq_skeleton]; unfold k0_part7_skel
  simp only [Prog.lift, Prog.bind_op, Prog.bind_ret, Prog.pure_eq_ret]
  iintro ⟨Hh, Hk⟩
  iapply (head_step m ρ c 1 1 rfl rfl (w := k0_pay16 (vA m ρ c) (k0_pay15 (qP m ρ c) (qrP m ρ c) (krP m ρ c) (k0_pay11 (xsV m ρ c 0)) (xrV m ρ c 0)) (Named.named κ "scale" 0x3DD105EC#32)) rfl) $$ Hh; iintro Hh
  iapply (head_step m ρ c 2 2 rfl rfl (w := k0_pay17 (qP m ρ c) (qrP m ρ c) (krP m ρ c) (kA m ρ c) (vA m ρ c)) rfl) $$ Hh; iintro Hh
  iapply (ret_step c _ Q)
  iapply Hk
  iexact Hh

theorem run_part8 (c : Dev nD) (a b : BitVec 32) :
    Run c iprop(records m ρ K ∗ owed c lY ∗ wtok c (iXR 2) NX ∗ heads m ρ c 3)
      (here (k0_part8 (F := F)) a b (qrP m ρ c) (krP m ρ c) (kA m ρ c) (vA m ρ c) (k0_pay18 (qP m ρ c)))
      ⟨Scalar.addi 0#32 (Scalar.muli b 2#32), Scalar.muli a 1#32⟩
      iprop(owed c lY ∗ xrZ m ρ c 2 ∗ heads m ρ c 4) := by
  intro Q
  unfold here; rw [k0_part8_eq_skeleton]; unfold k0_part8_skel
  simp only [Prog.lift, Prog.bind_op, Prog.bind_ret, Prog.pure_eq_ret]
  iintro ⟨⟨#HR, HO, Hw, Hh⟩, Hk⟩
  iapply (head_step m ρ c 3 3 rfl rfl (w := k0_pay19 (qrP m ρ c) (krP m ρ c) (kA m ρ c) (vA m ρ c) (k0_pay18 (qP m ρ c))) rfl) $$ Hh; iintro Hh
  iapply (wait_xr m ρ K c 2 lY rfl (NX_eq 2) (by decide)) $$ [Hw HO]
  · iframe HR Hw; iexact HO
  iintro ⟨Hr, Hz, HO⟩
  iapply (ret_step c _ Q)
  iapply Hk
  iframe HO Hr Hz
  iexact Hh

/-! ## Heads 4 to 7 -/

theorem run_part9 (c : Dev nD) (a b : BitVec 32) :
    Run c iprop(records m ρ K ∗ owed c lY ∗ wtok c (iXR 3) NX ∗ xsH m ρ c ∗ xrL m ρ c 2)
      (here (k0_part9 (F := F)) (qP m ρ c) (qrP m ρ c) (krP m ρ c) a b)
      ⟨kB m ρ c, vB m ρ c, k0_pay22 (qP m ρ c) (qrP m ρ c) (krP m ρ c) (xsV m ρ c 256) (xrV m ρ c 256) (xsV m ρ c 1280) (xrV m ρ c 1280)⟩
      iprop(owed c lY ∗ xsH m ρ c ∗ xrL m ρ c 2 ∗ xrZ m ρ c 3) := by
  intro Q
  unfold here; rw [k0_part9_eq_skeleton]; unfold k0_part9_skel
  simp only [Prog.lift, Prog.bind_op, Prog.bind_ret, Prog.pure_eq_ret]
  iintro ⟨⟨#HR, HO, Hw, Hx, H0⟩, Hk⟩
  iapply (wait_xr m ρ K c 3 lY rfl (NX_eq 3) (by decide)) $$ [Hw HO]
  · iframe HR Hw; iexact HO
  iintro ⟨H1, Hz, HO⟩
  iapply (load_xs c fullShare.right (XS m ρ c) (by decide)) $$ Hx; iintro Hx
  iapply (load_xr c 2 (XS m ρ (xp c)) (o := 256) rfl (by decide)) $$ H0; iintro H0
  iapply (load_xs c fullShare.right (XS m ρ c) (by decide)) $$ Hx; iintro Hx
  iapply (load_xr c 3 (XS m ρ (xp c)) (o := 1280) rfl (by decide)) $$ H1; iintro H1
  iapply (ret_step c _ Q)
  iapply Hk
  iframe HO Hx H0 H1
  iexact Hz

theorem run_part10 (c : Dev nD) :
    Run c iprop(heads m ρ c 4)
      (here (k0_part10 (F := F)) (qP m ρ c) (qrP m ρ c) (krP m ρ c) (kB m ρ c) (vB m ρ c)
        (k0_pay22 (qP m ρ c) (qrP m ρ c) (krP m ρ c) (xsV m ρ c 256) (xrV m ρ c 256) (xsV m ρ c 1280) (xrV m ρ c 1280)))
      (k0_pay25 (qP m ρ c) (qrP m ρ c) (krP m ρ c) (kB m ρ c)) iprop(heads m ρ c 6) := by
  intro Q
  unfold here; rw [k0_part10_eq_skeleton]; unfold k0_part10_skel
  simp only [Prog.lift, Prog.bind_op, Prog.bind_ret, Prog.pure_eq_ret]
  iintro ⟨Hh, Hk⟩
  iapply (head_step m ρ c 4 4 rfl rfl (w := k0_pay23 (k0_pay22 (qP m ρ c) (qrP m ρ c) (krP m ρ c) (xsV m ρ c 256) (xrV m ρ c 256) (xsV m ρ c 1280) (xrV m ρ c 1280))) rfl) $$ Hh; iintro Hh
  iapply (head_step m ρ c 5 5 rfl rfl (w := k0_pay24 (qP m ρ c) (qrP m ρ c) (krP m ρ c) (kB m ρ c) (vB m ρ c)) rfl) $$ Hh; iintro Hh
  iapply (ret_step c _ Q)
  iapply Hk
  iexact Hh

theorem run_part11 (c : Dev nD) (a b : BitVec 32) :
    Run c iprop(heads m ρ c 6)
      (here (k0_part11 (F := F)) a b (qP m ρ c) (qrP m ρ c) (krP m ρ c) (kB m ρ c) (vB m ρ c) (k0_pay25 (qP m ρ c) (qrP m ρ c) (krP m ρ c) (kB m ρ c)))
      ⟨⟩ iprop(heads m ρ c 8) := by
  intro Q
  unfold here; rw [k0_part11_eq_skeleton]; unfold k0_part11_skel
  simp only [Prog.lift, Prog.bind_op, Prog.bind_ret, Prog.pure_eq_ret]
  iintro ⟨Hh, Hk⟩
  iapply (head_step m ρ c 6 6 rfl rfl (w := k0_pay26 (vB m ρ c) (k0_pay25 (qP m ρ c) (qrP m ρ c) (krP m ρ c) (kB m ρ c))) rfl) $$ Hh; iintro Hh
  iapply (head_step m ρ c 7 7 rfl rfl (w := k0_pay27 (qP m ρ c) (qrP m ρ c) (krP m ρ c) (kB m ρ c) (vB m ρ c)) rfl) $$ Hh; iintro Hh
  iapply (ret_step c _ Q)
  iapply Hk
  iexact Hh

/-! ## Heads 8 to 11 -/

theorem run_part12 (c : Dev nD) (a b : BitVec 32) :
    Run c iprop(records m ρ K ∗ owed c lY ∗ wtok c (iXR 4) NX ∗ wtok c (iXR 5) NX ∗ xsH m ρ c)
      (here (k0_part12 (F := F)) a b (qP m ρ c) (qrP m ρ c) (krP m ρ c))
      ⟨kC m ρ c, vC m ρ c, k0_pay30 (qP m ρ c) (qrP m ρ c) (krP m ρ c) (xsV m ρ c 512) (xrV m ρ c 512)⟩
      iprop(owed c lY ∗ xsH m ρ c ∗ xrZ m ρ c 4 ∗ xrZ m ρ c 5) := by
  intro Q
  unfold here; rw [k0_part12_eq_skeleton]; unfold k0_part12_skel
  simp only [Prog.lift, Prog.bind_op, Prog.bind_ret, Prog.pure_eq_ret]
  iintro ⟨⟨#HR, HO, Hw, Hw', Hx⟩, Hk⟩
  iapply (wait_xr m ρ K c 4 lY rfl (NX_eq 4) (by decide)) $$ [Hw HO]
  · iframe HR Hw; iexact HO
  iintro ⟨H0, Hz0, HO⟩
  iapply (wait_xr m ρ K c 5 lY rfl (NX_eq 5) (by decide)) $$ [Hw' HO]
  · iframe HR Hw'; iexact HO
  iintro ⟨H1, Hz1, HO⟩
  iapply (load_xs c fullShare.right (XS m ρ c) (by decide)) $$ Hx; iintro Hx
  iapply (load_xr c 4 (XS m ρ (xp c)) (o := 512) rfl (by decide)) $$ H0; iintro H0
  iapply (load_xs c fullShare.right (XS m ρ c) (by decide)) $$ Hx; iintro Hx
  iapply (load_xr c 5 (XS m ρ (xp c)) (o := 1536) rfl (by decide)) $$ H1; iintro H1
  iapply (ret_step c _ Q)
  iapply Hk
  iframe HO Hx H0 Hz0 H1
  iexact Hz1

theorem run_part13 (c : Dev nD) :
    Run c iprop(heads m ρ c 8)
      (here (k0_part13 (F := F)) (qP m ρ c) (qrP m ρ c) (krP m ρ c) (kC m ρ c) (vC m ρ c) (k0_pay30 (qP m ρ c) (qrP m ρ c) (krP m ρ c) (xsV m ρ c 512) (xrV m ρ c 512)))
      ⟨k0_pay33 (qP m ρ c), k0_pay34 (qrP m ρ c)⟩ iprop(heads m ρ c 10) := by
  intro Q
  unfold here; rw [k0_part13_eq_skeleton]; unfold k0_part13_skel
  simp only [Prog.lift, Prog.bind_op, Prog.bind_ret, Prog.pure_eq_ret]
  iintro ⟨Hh, Hk⟩
  iapply (head_step m ρ c 8 8 rfl rfl (w := k0_pay31 (vC m ρ c) (k0_pay30 (qP m ρ c) (qrP m ρ c) (krP m ρ c) (xsV m ρ c 512) (xrV m ρ c 512))) rfl) $$ Hh; iintro Hh
  iapply (head_step m ρ c 9 9 rfl rfl (w := k0_pay32 (qP m ρ c) (qrP m ρ c) (krP m ρ c) (kC m ρ c) (vC m ρ c)) rfl) $$ Hh; iintro Hh
  iapply (ret_step c _ Q)
  iapply Hk
  iexact Hh

theorem run_part14 (c : Dev nD) :
    Run c iprop(heads m ρ c 10)
      (here (k0_part14 (F := F)) (qP m ρ c) (qrP m ρ c) (krP m ρ c) (kC m ρ c) (vC m ρ c) (k0_pay33 (qP m ρ c)) (k0_pay34 (qrP m ρ c)))
      (k0_pay36 (qP m ρ c) (qrP m ρ c) (krP m ρ c) (kC m ρ c) (vC m ρ c)) iprop(heads m ρ c 11) := by
  intro Q
  unfold here; rw [k0_part14_eq_skeleton]; unfold k0_part14_skel
  simp only [Prog.lift, Prog.bind_op, Prog.bind_ret, Prog.pure_eq_ret]
  iintro ⟨Hh, Hk⟩
  iapply (head_step m ρ c 10 10 rfl rfl (w := k0_pay35 (krP m ρ c) (kC m ρ c) (vC m ρ c) (k0_pay33 (qP m ρ c)) (k0_pay34 (qrP m ρ c))) rfl) $$ Hh; iintro Hh
  iapply (ret_step c _ Q)
  iapply Hk
  iexact Hh

theorem run_part15 (c : Dev nD) (a b : BitVec 32) :
    Run c iprop(records m ρ K ∗ owed c lY ∗ wtok c (iXR 6) NX ∗ wtok c (iXR 7) NX ∗ xsH m ρ c ∗ heads m ρ c 11)
      (here (k0_part15 (F := F)) a b (k0_pay36 (qP m ρ c) (qrP m ρ c) (krP m ρ c) (kC m ρ c) (vC m ρ c)))
      ⟨kD m ρ c, k0_pay39 (xsV m ρ c 1792), k0_pay40 (xrV m ρ c 1792)⟩
      iprop(owed c lY ∗ xsH m ρ c ∗ xrZ m ρ c 6 ∗ xrZ m ρ c 7 ∗ heads m ρ c 12) := by
  intro Q
  unfold here; rw [k0_part15_eq_skeleton]; unfold k0_part15_skel
  simp only [Prog.lift, Prog.bind_op, Prog.bind_ret, Prog.pure_eq_ret]
  iintro ⟨⟨#HR, HO, Hw, Hw', Hx, Hh⟩, Hk⟩
  iapply (head_step m ρ c 11 11 rfl rfl (w := k0_pay37 (k0_pay36 (qP m ρ c) (qrP m ρ c) (krP m ρ c) (kC m ρ c) (vC m ρ c))) rfl) $$ Hh; iintro Hh
  iapply (wait_xr m ρ K c 6 lY rfl (NX_eq 6) (by decide)) $$ [Hw HO]
  · iframe HR Hw; iexact HO
  iintro ⟨H0, Hz0, HO⟩
  iapply (wait_xr m ρ K c 7 lY rfl (NX_eq 7) (by decide)) $$ [Hw' HO]
  · iframe HR Hw'; iexact HO
  iintro ⟨H1, Hz1, HO⟩
  iapply (load_xs c fullShare.right (XS m ρ c) (by decide)) $$ Hx; iintro Hx
  iapply (load_xr c 6 (XS m ρ (xp c)) (o := 768) rfl (by decide)) $$ H0; iintro H0
  iapply (load_xs c fullShare.right (XS m ρ c) (by decide)) $$ Hx; iintro Hx
  iapply (load_xr c 7 (XS m ρ (xp c)) (o := 1792) rfl (by decide)) $$ H1; iintro H1
  iapply (ret_step c _ Q)
  iapply Hk
  iframe HO Hx H0 Hz0 H1 Hz1
  iexact Hh

/-! ## Heads 12 to 15 -/

theorem run_part16 (c : Dev nD) :
    Run c iprop(heads m ρ c 12)
      (here (k0_part16 (F := F)) (qP m ρ c) (qrP m ρ c) (krP m ρ c) (kD m ρ c) (k0_pay39 (xsV m ρ c 1792)) (k0_pay40 (xrV m ρ c 1792)))
      ⟨vD m ρ c, k0_pay43 (qP m ρ c) (qrP m ρ c) (krP m ρ c) (kD m ρ c), k0_pay44 (qP m ρ c) (qrP m ρ c) (krP m ρ c) (kD m ρ c)⟩ iprop(heads m ρ c 13) := by
  intro Q
  unfold here; rw [k0_part16_eq_skeleton]; unfold k0_part16_skel
  simp only [Prog.lift, Prog.bind_op, Prog.bind_ret, Prog.pure_eq_ret]
  iintro ⟨Hh, Hk⟩
  iapply (head_step m ρ c 12 12 rfl rfl (w := k0_pay42 (qP m ρ c) (qrP m ρ c) (krP m ρ c) (kD m ρ c) (k0_pay39 (xsV m ρ c 1792)) (k0_pay40 (xrV m ρ c 1792))) rfl) $$ Hh; iintro Hh
  iapply (ret_step c _ Q)
  iapply Hk
  iexact Hh

theorem run_part17 (c : Dev nD) :
    Run c iprop(heads m ρ c 13)
      (here (k0_part17 (F := F)) (qP m ρ c) (qrP m ρ c) (krP m ρ c) (kD m ρ c) (vD m ρ c)
        (k0_pay43 (qP m ρ c) (qrP m ρ c) (krP m ρ c) (kD m ρ c)) (k0_pay44 (qP m ρ c) (qrP m ρ c) (krP m ρ c) (kD m ρ c)))
      (k0_pay47 (qP m ρ c) (qrP m ρ c) (krP m ρ c) (kD m ρ c)) iprop(heads m ρ c 15) := by
  intro Q
  unfold here; rw [k0_part17_eq_skeleton]; unfold k0_part17_skel
  simp only [Prog.lift, Prog.bind_op, Prog.bind_ret, Prog.pure_eq_ret]
  iintro ⟨Hh, Hk⟩
  iapply (head_step m ρ c 13 13 rfl rfl (w := k0_pay45 (vD m ρ c) (k0_pay43 (qP m ρ c) (qrP m ρ c) (krP m ρ c) (kD m ρ c)) (k0_pay44 (qP m ρ c) (qrP m ρ c) (krP m ρ c) (kD m ρ c))) rfl) $$ Hh; iintro Hh
  iapply (head_step m ρ c 14 14 rfl rfl (w := k0_pay46 (qP m ρ c) (qrP m ρ c) (krP m ρ c) (kD m ρ c) (vD m ρ c)) rfl) $$ Hh; iintro Hh
  iapply (ret_step c _ Q)
  iapply Hk
  iexact Hh

end Cert.MlaProof

end
-- ==== Proof.Tail.lean ====
/-
# The end of the kernel: the result row, its exchange, and the sends waited for

The parts of the kernel after the heads: the last head, the product with the output weights, its rounded copy sent in two
halves, both rows of the result stored, the sends waited for. Which row is the device's own depends on its place along
`y`; the two cases are taken apart first, and each store is stated once for either row.
-/
module

public import proofs.«01_k».proof.Proof.Heads

@[expose] public section

noncomputable section

namespace Cert.MlaProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-- The attention output once every head is in place. -/
theorem heads_full (c : Dev nD) : heads m ρ c 16 ⊢ own c cc0_scratch2 fullShare (OB m ρ c) := by
  unfold heads
  iintro ⟨%f, %hf, H⟩
  rw [show f = OB m ρ c from funext fun i => hf i (by have h1 : (i 1).val < 1024 := (i 1).isLt; omega)]
  iexact H

/-- The left half of the row to be sent is in place after the first store; -/
theorem ys_left (c : Dev nD) (f : FVec F S256x1024 .bf16) (h : S256x1024.Slices ![0, 0] S256x512) :
    own c cc0_scratch3 fullShare (updateSlice f (k0_pay50 (k0_pay10 (wO m ρ c)) (OB m ρ c)) ![0, 0] h)
      ⊢ iprop(ysP c 0 (YS m ρ c) ∗ ∃ g : FVec F S256x1024 .bf16, ysP c 1 g) := by
  rw [cut_ys, two]
  have e : ysP c 0 (updateSlice f (k0_pay50 (k0_pay10 (wO m ρ c)) (OB m ρ c)) ![0, 0] h) ⊢ ysP c 0 (YS m ρ c) := by
    rw [ysP_eq, ysP_eq]
    exact Entails.of_eq (pointsTo_congr fun i hi => sides_left (n := 512) (N := 1024) rfl f _ _ h i (by
      have := (mem_cols (yo_inb 0) i).mp hi
      unfold yo at this; omega))
  iintro ⟨H0, H1⟩
  isplitl [H0]; · iapply e; iexact H0
  iexists _; iexact H1

theorem setOn_ys (S : Finset S256x1024.Idx) : ysM.view.setOn S = S := Finset.map_refl

/-- the right half after the second. -/
theorem store_ys1 (c : Dev nD) (f : FVec F S256x1024 .bf16)
    {inb inb' : ∀ a, (![0, 512] : Fin 2 → ℕ) a + S256x512.size a ≤ S256x1024.size a} {hl hx hm}
    {α : Type} {Q : α → sProp 𝕄} {kt : PUnit → Prog (TpuEff nD τ sig (Elt F) Λ₀ .tc) α} :
    ysP c 1 f ⊢ iprop((ysP c 1 (YS m ρ c) -∗ WP c (kt ⟨⟩) Q)
      -∗ WP c (.op (.load ysM (Rect.unit (s := S256x1024) ![0, 512] S256x512.size inb).toLoadRect hl)
        fun _ => .op (.store ysM (Rect.unit (s := S256x1024) ![0, 512] S256x512.size inb') (k0_pay53 (k0_pay52 (k0_pay10 (wO m ρ c)) (OB m ρ c))) Finset.univ hx hm) kt) Q) := by
  have e : ((c : Thread nD τ).loc cc0_scratch3 ↦[(yRect 1).set]{fullShare} (ysM.access (Rect.unit (s := S256x1024) ![0, 512] S256x512.size inb')).write (Elt F) f
      (k0_pay53 (k0_pay52 (k0_pay10 (wO m ρ c)) (OB m ρ c))) Finset.univ) ⊢ ysP c 1 (YS m ρ c) := by
    rw [ysP_eq]
    refine Entails.of_eq (pointsTo_congr fun i hi => ?_)
    refine (congrFun (View.write_whole_slice_unit (Val := Elt F) cc0_scratch3 ![0, 512] S256x512.size inb' f _) i).trans
      (sides_right (n := 512) (N := 1024) rfl f _ _ rfl _ i (by
        have := (mem_cols (yo_inb 1) i).mp hi
        unfold yo at this; omega))
  rw [ysP_eq c 1 f]
  iintro H Hk
  iapply (wp_load 𝒱₀ (c : Thread nD τ) none Set.univ (m := ysM) (S := (yRect 1).set) (le_of_eq (setOn_ys _))) $$ H; iintro H
  iapply (wp_store 𝒱₀ (c : Thread nD τ) none Set.univ (m := ysM) (r := Rect.unit (s := S256x1024) ![0, 512] S256x512.size inb')
    (w := k0_pay53 (k0_pay52 (k0_pay10 (wO m ρ c)) (OB m ρ c))) (Mk := Finset.univ) (S := (yRect 1).set) (le_of_eq (View.set_slice_whole cc0_scratch3 (yRect 1)))) $$ H; iintro H
  iapply Hk
  iapply e; iexact H

theorem run_part18 (c : Dev nD) (a b : BitVec 32) (fy : FVec F S256x1024 .bf16) :
    Run c iprop(records m ρ K ∗ owed c lY ∗ heads m ρ c 15 ∗ own c cc0_scratch3 fullShare fy ∗ sytok c 0)
      (here (k0_part18 (F := F)) c a b (k0_pay10 (wO m ρ c)) (vD m ρ c) (k0_pay47 (qP m ρ c) (qrP m ρ c) (krP m ρ c) (kD m ρ c)))
      ⟨resL m ρ c, resR m ρ c, k0_pay52 (k0_pay10 (wO m ρ c)) (OB m ρ c)⟩
      iprop(owed c (lY.drop 1) ∗ own c cc0_scratch2 fullShare (OB m ρ c) ∗ ysent c 0 ∗ ∃ g : FVec F S256x1024 .bf16, ysP c 1 g) := by
  intro Q
  unfold resL resR here; rw [k0_part18_eq_skeleton]; unfold k0_part18_skel
  simp only [Prog.lift, Prog.bind_op, Prog.bind_ret, Prog.pure_eq_ret]
  iintro ⟨⟨#HR, HO, Hh, Hy, Ht⟩, Hk⟩
  iapply (head_step m ρ c 15 15 rfl rfl (w := k0_pay48 (vD m ρ c) (k0_pay47 (qP m ρ c) (qrP m ρ c) (krP m ρ c) (kD m ρ c))) rfl) $$ Hh; iintro Hh
  ihave Hh := (heads_full m ρ c) $$ Hh
  iapply (load_as c (mm := obM) fullShare (OB m ρ c) (Memref.readAt_unit_zero (Elt F) cc0_scratch2 zero2 _ _)) $$ Hh; iintro Hh
  iapply (load_as c (mm := ysM) fullShare fy rfl) $$ Hy; iintro Hy
  iapply (store_as c (mm := ysM) (r := Rect.unit (s := S256x1024) ![0, 0] S256x512.size inb_S256x1024_S256x512_0_0) (w := k0_pay50 (k0_pay10 (wO m ρ c)) (OB m ρ c)) fy
    (View.write_whole_slice_unit (Val := Elt F) cc0_scratch3 ![0, 0] S256x512.size inb_S256x1024_S256x512_0_0 fy _)) $$ Hy; iintro Hy
  ihave Hy := (ys_left m ρ c fy ⟨rfl, inb_S256x1024_S256x512_0_0⟩) $$ Hy
  icases Hy with ⟨Hy, Hy1⟩
  iapply (send_y m ρ K c 0 (lY.drop 1) (dev_y c (k0_dev11_eq c)) rfl rfl rfl) $$ [Hy Ht HO]
  · iframe HR Hy Ht; iexact HO
  iintro ⟨Hc0, HO⟩
  iapply (ret_step c _ Q)
  iapply Hk
  iframe HO Hh Hc0
  iexact Hy1

/-! ## The two rows of the result -/

/-- The result with the device's own row (`r`) in place. -/
def rowIn (c : Dev nD) : sProp 𝕄 :=
  iprop(∃ (f : FVec F S2x256x1024 .f32) (h1 : S2x256x1024.Slices ![c.val % 2, 0, 0] S1x256x512) (h2 : S2x256x1024.Slices ![c.val % 2, 0, 512] S1x256x512),
    own c cc0_stg8_0 fullShare (updateSlice (updateSlice f (k0_pay54 (resL m ρ c)) ![c.val % 2, 0, 0] h1) (k0_pay55 (resR m ρ c)) ![c.val % 2, 0, 512] h2))

abbrev ouM : Memref sig .tc .vmem S2x256x1024 .f32 := Memref.whole cc0_stg8_0

theorem row_step (c : Dev nD) (r : ℕ) (hr : r = c.val % 2) (f : FVec F S2x256x1024 .f32)
    {i1 i2 : ∀ a, (![r, 0, 0] : Fin 3 → ℕ) a + S1x256x512.size a ≤ S2x256x1024.size a} {j1 j2 : ∀ a, (![r, 0, 512] : Fin 3 → ℕ) a + S1x256x512.size a ≤ S2x256x1024.size a}
    {w1 w2 : FVec F S1x256x512 .f32} (hw1 : w1 = k0_pay54 (resL m ρ c)) (hw2 : w2 = k0_pay55 (resR m ρ c))
    {l1 l2 x1 x2 m1 m2} {α : Type} {Q : α → sProp 𝕄} {kt : PUnit → Prog (TpuEff nD τ sig (Elt F) Λ₀ .tc) α} :
    own c cc0_stg8_0 fullShare f ⊢ iprop((rowIn m ρ c -∗ WP c (kt ⟨⟩) Q)
      -∗ WP c (.op (.load ouM (Rect.unit (s := S2x256x1024) ![r, 0, 0] S1x256x512.size i1).toLoadRect l1)
        fun _ => .op (.store ouM (Rect.unit (s := S2x256x1024) ![r, 0, 0] S1x256x512.size i2) w1 Finset.univ x1 m1)
        fun _ => .op (.load ouM (Rect.unit (s := S2x256x1024) ![r, 0, 512] S1x256x512.size j1).toLoadRect l2)
        fun _ => .op (.store ouM (Rect.unit (s := S2x256x1024) ![r, 0, 512] S1x256x512.size j2) w2 Finset.univ x2 m2) kt) Q) := by
  subst hr; subst hw1; subst hw2
  unfold rowIn
  iintro H Hk
  iapply (load_as c (mm := ouM) fullShare f rfl) $$ H; iintro H
  iapply (store_as c (mm := ouM) (r := Rect.unit (s := S2x256x1024) ![c.val % 2, 0, 0] S1x256x512.size i2) (w := k0_pay54 (resL m ρ c)) f
    (View.write_whole_slice_unit (Val := Elt F) cc0_stg8_0 ![c.val % 2, 0, 0] S1x256x512.size i2 f _)) $$ H; iintro H
  iapply (load_as c (mm := ouM) fullShare _ rfl) $$ H; iintro H
  iapply (store_as c (mm := ouM) (r := Rect.unit (s := S2x256x1024) ![c.val % 2, 0, 512] S1x256x512.size j2) (w := k0_pay55 (resR m ρ c)) (updateSlice f (k0_pay54 (resL m ρ c)) ![c.val % 2, 0, 0] ⟨rfl, i2⟩)
    (View.write_whole_slice_unit (Val := Elt F) cc0_stg8_0 ![c.val % 2, 0, 512] S1x256x512.size j2 _ _)) $$ H; iintro H
  iapply Hk
  iexists f, ⟨rfl, i2⟩, ⟨rfl, j2⟩
  iexact H

/-- The other row, from what was received. -/
theorem other_step (c : Dev nD) (r : ℕ) (hr : r = 1 - c.val % 2)
    {i0 : ∀ a, (![0, 0] : Fin 2 → ℕ) a + S256x1024.size a ≤ S256x1024.size a} {i1 i2 : ∀ a, (![r, 0, 0] : Fin 3 → ℕ) a + S1x256x1024.size a ≤ S2x256x1024.size a}
    {g : Vec F S256x1024 .bf16 → FVec F S1x256x1024 .f32} (hg : g = k0_pay58)
    {l0 l1 x1 m1} {α : Type} {Q : α → sProp 𝕄} {kt : PUnit → Prog (TpuEff nD τ sig (Elt F) Λ₀ .tc) α} :
    iprop(rowIn m ρ c ∗ own c cc0_scratch4 fullShare (YS m ρ (yp c)))
      ⊢ iprop(((own c cc0_stg8_0 fullShare (OUT m ρ c) ∗ own c cc0_scratch4 fullShare (YS m ρ (yp c))) -∗ WP c (kt ⟨⟩) Q)
      -∗ WP c (.op (.load yrM (Rect.unit (s := S256x1024) ![0, 0] S256x1024.size i0).toLoadRect l0)
        fun (v : Vec F S256x1024 .bf16) => .op (.load ouM (Rect.unit (s := S2x256x1024) ![r, 0, 0] S1x256x1024.size i1).toLoadRect l1)
        fun _ => .op (.store ouM (Rect.unit (s := S2x256x1024) ![r, 0, 0] S1x256x1024.size i2) (g v) Finset.univ x1 m1) kt) Q) := by
  subst hr; subst hg
  unfold rowIn
  iintro ⟨⟨%f, %h1, %h2, H⟩, Hy⟩ Hk
  iapply (load_as c (mm := yrM) fullShare (YS m ρ (yp c)) (Memref.readAt_unit_zero (Elt F) cc0_scratch4 zero2 _ _)) $$ Hy; iintro Hy
  iapply (load_as c (mm := ouM) fullShare _ rfl) $$ H; iintro H
  iapply (store_as c (mm := ouM) (r := Rect.unit (s := S2x256x1024) ![1 - c.val % 2, 0, 0] S1x256x1024.size i2) (w := k0_pay58 (YS m ρ (yp c)))
    (updateSlice (updateSlice f (k0_pay54 (resL m ρ c)) ![c.val % 2, 0, 0] h1) (k0_pay55 (resR m ρ c)) ![c.val % 2, 0, 512] h2)
    ((View.write_whole_slice_unit (Val := Elt F) cc0_stg8_0 ![1 - c.val % 2, 0, 0] S1x256x1024.size i2 _ _).trans (out_upd m ρ c rfl rfl f h1 h2 ⟨rfl, i2⟩))) $$ H; iintro H
  iapply Hk
  iframe H
  iexact Hy

/-- The printed tests of the device's place along `y`. -/
abbrev isY (c : Dev nD) (b : BitVec 32) : Prop := Scalar.cmpi .ne (Scalar.extui (Scalar.cmpi .eq (w5 c) b)) 0#32 = 1#1
theorem isY_zero (c : Dev nD) : isY c 0#32 ↔ c.val % 2 = 0 := by revert c; decide
theorem isY_one (c : Dev nD) : isY c 1#32 ↔ c.val % 2 = 1 := by revert c; decide

theorem run_part19 (c : Dev nD) (a v : BitVec 32) (fo : FVec F S2x256x1024 .f32) :
    Run c iprop(records m ρ K ∗ owed c (lY.drop 1) ∗ (∃ g : FVec F S256x1024 .bf16, ysP c 1 g) ∗ sytok c 1 ∗ own c cc0_stg8_0 fullShare fo ∗ wtok c (iYR 0) NY)
      (here (k0_part19 (F := F)) c a (w5 c) v (resL m ρ c) (resR m ρ c) (k0_pay52 (k0_pay10 (wO m ρ c)) (OB m ρ c)))
      ⟨Scalar.muli a 2#32, 0#32⟩
      iprop(owed c [] ∗ ysent c 1 ∗ rowIn m ρ c ∗ yrP c 0 (YS m ρ (yp c)) ∗ semVal (kcell (c, iYR 0)) 0) := by
  intro Q
  unfold here; rw [k0_part19_eq_skeleton]; unfold k0_part19_skel
  iintro ⟨⟨#HR, HO, ⟨%g, Hy⟩, Ht, H8, Hw⟩, Hk⟩
  rcases Nat.mod_two_eq_zero_or_one c.val with h | h
  all_goals
    have e0 := isY_zero c
    have e1 := isY_one c
    rw [h] at e0 e1
  · have t0 : isY c 0#32 := e0.mpr rfl
    have t1 : ¬ isY c 1#32 := fun h => absurd (e1.mp h) (by decide)
    simp only [dif_pos t0, dif_neg t1, Prog.lift, Prog.bind_op, Prog.bind_ret, Prog.pure_eq_ret]
    iapply (store_ys1 m ρ c g) $$ Hy; iintro Hy
    iapply (send_y m ρ K c 1 [] (dev_y c (k0_dev12_eq c)) rfl rfl rfl) $$ [Hy Ht HO]
    · iframe HR Hy Ht; iexact HO
    iintro ⟨Hc, HO⟩
    iapply (row_step m ρ c 0 h.symm fo rfl rfl) $$ H8; iintro H8
    iapply (wait_yr m ρ K c 0 [] rfl (NY_eq 0) (by decide)) $$ [Hw HO]
    · iframe HR Hw; iexact HO
    iintro ⟨Hr, Hz, HO⟩
    iapply (ret_step c _ Q)
    iapply Hk
    iframe HO Hc H8 Hr
    iexact Hz
  · have t0 : ¬ isY c 0#32 := fun h => absurd (e0.mp h) (by decide)
    have t1 : isY c 1#32 := e1.mpr rfl
    simp only [dif_neg t0, dif_pos t1, Prog.lift, Prog.bind_op, Prog.bind_ret, Prog.pure_eq_ret]
    iapply (store_ys1 m ρ c g) $$ Hy; iintro Hy
    iapply (send_y m ρ K c 1 [] (dev_y c (k0_dev12_eq c)) rfl rfl rfl) $$ [Hy Ht HO]
    · iframe HR Hy Ht; iexact HO
    iintro ⟨Hc, HO⟩
    iapply (row_step m ρ c 1 h.symm fo (w1 := k0_pay56 (resL m ρ c)) (w2 := k0_pay57 (resR m ρ c)) rfl rfl) $$ H8; iintro H8
    iapply (wait_yr m ρ K c 0 [] rfl (NY_eq 0) (by decide)) $$ [Hw HO]
    · iframe HR Hw; iexact HO
    iintro ⟨Hr, Hz, HO⟩
    iapply (ret_step c _ Q)
    iapply Hk
    iframe HO Hc H8 Hr
    iexact Hz

/-- A chunk back from its send, with the cell closed. -/
abbrev xsZ (c : Dev nD) (k : Fin 8) : sProp 𝕄 := iprop(xsP c k fullShare.left (XS m ρ c) ∗ semVal (kcell (c, iXS k)) 0)

theorem run_part20 (c : Dev nD) (v u w : BitVec 32) :
    Run c iprop(records m ρ K ∗ owed c [] ∗ rowIn m ρ c ∗ yrP c 0 (YS m ρ (yp c)) ∗ wtok c (iYR 1) NY ∗ wtok c (iXS 0) NX ∗ wtok c (iXS 1) NX)
      (here (k0_part20 (F := F)) (w5 c) v u w) ⟨⟩
      iprop(owed c [] ∗ own c cc0_stg8_0 fullShare (OUT m ρ c) ∗ own c cc0_scratch4 fullShare (YS m ρ (yp c)) ∗ semVal (kcell (c, iYR 1)) 0
        ∗ xsZ m ρ c 0 ∗ xsZ m ρ c 1) := by
  intro Q
  unfold here; rw [k0_part20_eq_skeleton]; unfold k0_part20_skel
  iintro ⟨⟨#HR, HO, H8, Hr0, Hw, Hw0, Hw1⟩, Hk⟩
  rcases Nat.mod_two_eq_zero_or_one c.val with h | h
  all_goals
    have e0 := isY_zero c
    have e1 := isY_one c
    rw [h] at e0 e1
  · have t0 : isY c 0#32 := e0.mpr rfl
    have t1 : ¬ isY c 1#32 := fun h => absurd (e1.mp h) (by decide)
    simp only [dif_pos t0, dif_neg t1, Prog.lift, Prog.bind_op, Prog.bind_ret, Prog.pure_eq_ret]
    iapply (wait_yr m ρ K c 1 [] rfl (NY_eq 1) (by decide)) $$ [Hw HO]
    · iframe HR Hw; iexact HO
    iintro ⟨Hr1, Hz, HO⟩
    ihave Hy := (Entails.of_eq ((cut_yr c (YS m ρ (yp c))).trans (two _)).symm) $$ [Hr0 Hr1]
    · iframe Hr0; iexact Hr1
    iapply (other_step m ρ c 1 (by rw [h]) (g := k0_pay58) rfl) $$ [H8 Hy]
    · iframe H8; iexact Hy
    iintro ⟨H8, Hy⟩
    iapply (wait_xs m ρ K c 0 [] rfl (NXs_eq 0) (by decide)) $$ [Hw0 HO]
    · iframe HR Hw0; iexact HO
    iintro ⟨Hs0, Hz0, HO⟩
    iapply (wait_xs m ρ K c 1 [] rfl (NXs_eq 1) (by decide)) $$ [Hw1 HO]
    · iframe HR Hw1; iexact HO
    iintro ⟨Hs1, Hz1, HO⟩
    iapply (ret_step c _ Q)
    iapply Hk
    iframe HO H8 Hy Hz Hs0 Hz0 Hs1
    iexact Hz1
  · have t0 : ¬ isY c 0#32 := fun h => absurd (e0.mp h) (by decide)
    have t1 : isY c 1#32 := e1.mpr rfl
    simp only [dif_neg t0, dif_pos t1, Prog.lift, Prog.bind_op, Prog.bind_ret, Prog.pure_eq_ret]
    iapply (wait_yr m ρ K c 1 [] rfl (NY_eq 1) (by decide)) $$ [Hw HO]
    · iframe HR Hw; iexact HO
    iintro ⟨Hr1, Hz, HO⟩
    ihave Hy := (Entails.of_eq ((cut_yr c (YS m ρ (yp c))).trans (two _)).symm) $$ [Hr0 Hr1]
    · iframe Hr0; iexact Hr1
    iapply (other_step m ρ c 0 (by rw [h]) (g := k0_pay59) rfl) $$ [H8 Hy]
    · iframe H8; iexact Hy
    iintro ⟨H8, Hy⟩
    iapply (wait_xs m ρ K c 0 [] rfl (NXs_eq 0) (by decide)) $$ [Hw0 HO]
    · iframe HR Hw0; iexact HO
    iintro ⟨Hs0, Hz0, HO⟩
    iapply (wait_xs m ρ K c 1 [] rfl (NXs_eq 1) (by decide)) $$ [Hw1 HO]
    · iframe HR Hw1; iexact HO
    iintro ⟨Hs1, Hz1, HO⟩
    iapply (ret_step c _ Q)
    iapply Hk
    iframe HO H8 Hy Hz Hs0 Hz0 Hs1
    iexact Hz1

theorem run_part21 (c : Dev nD) :
    Run c iprop(records m ρ K ∗ owed c [] ∗ wtok c (iXS 2) NX ∗ wtok c (iXS 3) NX ∗ wtok c (iXS 4) NX ∗ wtok c (iXS 5) NX ∗ wtok c (iXS 6) NX)
      (here (k0_part21 (F := F))) ⟨⟩
      iprop(owed c [] ∗ xsZ m ρ c 2 ∗ xsZ m ρ c 3 ∗ xsZ m ρ c 4 ∗ xsZ m ρ c 5 ∗ xsZ m ρ c 6) := by
  intro Q
  unfold here; rw [k0_part21_eq_skeleton]; unfold k0_part21_skel
  simp only [Prog.lift, Prog.bind_op, Prog.bind_ret, Prog.pure_eq_ret]
  iintro ⟨⟨#HR, HO, Hw2, Hw3, Hw4, Hw5, Hw6⟩, Hk⟩
  iapply (wait_xs m ρ K c 2 [] rfl (NXs_eq 2) (by decide)) $$ [Hw2 HO]
  · iframe HR Hw2; iexact HO
  iintro ⟨Hs2, Hz2, HO⟩
  iapply (wait_xs m ρ K c 3 [] rfl (NXs_eq 3) (by decide)) $$ [Hw3 HO]
  · iframe HR Hw3; iexact HO
  iintro ⟨Hs3, Hz3, HO⟩
  iapply (wait_xs m ρ K c 4 [] rfl (NXs_eq 4) (by decide)) $$ [Hw4 HO]
  · iframe HR Hw4; iexact HO
  iintro ⟨Hs4, Hz4, HO⟩
  iapply (wait_xs m ρ K c 5 [] rfl (NXs_eq 5) (by decide)) $$ [Hw5 HO]
  · iframe HR Hw5; iexact HO
  iintro ⟨Hs5, Hz5, HO⟩
  iapply (wait_xs m ρ K c 6 [] rfl (NXs_eq 6) (by decide)) $$ [Hw6 HO]
  · iframe HR Hw6; iexact HO
  iintro ⟨Hs6, Hz6, HO⟩
  iapply (ret_step c _ Q)
  iapply Hk
  iframe HO Hs2 Hz2 Hs3 Hz3 Hs4 Hz4 Hs5 Hz5 Hs6
  iexact Hz6

end Cert.MlaProof

end
-- ==== Proof.Body.lean ====
/-
# The kernel's body

The parts one after another: from what a device holds at launch to the result in its staging buffer, every cell closed.
-/
module

public import proofs.«01_k».proof.Proof.Tail

@[expose] public section

noncomputable section

namespace Cert.MlaProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-- One part of the body, then the rest. -/
theorem seq (c : Dev nD) {α β : Type} {pre post : sProp 𝕄} {p : Prog (TpuEff nD τ sig (Elt F) Λ₀ .tc) α} {a : α} (h : Run c pre p a post)
    {k : α → Prog (TpuEff nD τ sig (Elt F) Λ₀ .tc) β} {Q : β → sProp 𝕄} :
    pre ⊢ iprop((post -∗ WP c (k a) Q) -∗ WP c (p >>= k) Q) := by
  unfold WP
  rw [wp_bind]
  iintro H Hk
  iapply (h _)
  iframe H
  iexact Hk

/-- What the sends' tokens are made of, besides the landing pieces the barrier brings. -/
abbrev sxd (c : Dev nD) (k : Fin 8) : sProp 𝕄 := iprop(dutyTok ER (kcell (c, iXS k)) 0 false ∗ dutyTok ER (kcell (xp c, iXR k)) 0 false)
abbrev syd (c : Dev nD) (i : Fin 2) : sProp 𝕄 := iprop(dutyTok ER (kcell (c, iYS i)) 0 false ∗ dutyTok ER (kcell (yp c, iYR i)) 0 false)
abbrev atC (c : Dev nD) (i : CI) : sProp 𝕄 := atPos ER (kcell (c, i)) 0 ∅ 0

theorem tok_x (c : Dev nD) : iprop(pay m ρ c iB true ∗ bigSep Finset.univ fun k => sxd c k) ⊢ bigSep Finset.univ fun k : Fin 8 => sxtok c k := by
  refine Entails.of_eq (Eq.symm ?_)
  exact bigSep_sep' Finset.univ (fun k : Fin 8 => iprop(∃ f, xrP (xp c) k f)) fun k => sxd c k
theorem tok_y (c : Dev nD) : iprop(pay m ρ c iB false ∗ bigSep Finset.univ fun i => syd c i) ⊢ bigSep Finset.univ fun i : Fin 2 => sytok c i := by
  refine Entails.of_eq (Eq.symm ?_)
  exact bigSep_sep' Finset.univ (fun i : Fin 2 => iprop(∃ f, yrP (yp c) i f)) fun i => syd c i

/-- The operands in their staging buffers. -/
def stgs (c : Dev nD) : sProp 𝕄 :=
  iprop(own c cc0_stg0_0 fullShare (xA m ρ c) ∗ own c cc0_stg1_0 fullShare (wDkv m ρ c) ∗ own c cc0_stg2_0 fullShare (wUk m ρ c) ∗ own c cc0_stg3_0 fullShare (wUv m ρ c)
    ∗ own c cc0_stg4_0 fullShare (wQ m ρ c) ∗ own c cc0_stg5_0 fullShare (wQr m ρ c) ∗ own c cc0_stg6_0 fullShare (wKr m ρ c) ∗ own c cc0_stg7_0 fullShare (wO m ρ c))

/-- The kernel's own buffers, whatever they hold. -/
def scr (c : Dev nD) : sProp 𝕄 :=
  iprop((∃ f, own (F := F) c cc0_scratch0 fullShare f) ∗ (∃ f, own (F := F) c cc0_scratch1 fullShare f) ∗ (∃ f, own (F := F) c cc0_scratch2 fullShare f)
    ∗ (∃ f, own (F := F) c cc0_scratch3 fullShare f) ∗ (∃ f, own (F := F) c cc0_scratch4 fullShare f))

/-- What the device holds of the protocol at launch: what it owes, its duties, the right to wait on its cells. -/
def start (c : Dev nD) : sProp 𝕄 :=
  iprop((dutyTok ER (kcell (xp c, iB)) 0 true ∗ dutyTok ER (kcell (yp c, iB)) 0 false ∗ (bigSep Finset.univ fun k => sxd c k) ∗ (bigSep Finset.univ fun i => syd c i))
    ∗ wtok c iB 2 ∗ (bigSep Finset.univ fun k : Fin 8 => wtok c (iXR k) NX) ∗ (bigSep Finset.univ fun i : Fin 2 => wtok c (iYR i) NY)
    ∗ (bigSep Finset.univ fun k : Fin 8 => atC c (iXS k)) ∗ (bigSep Finset.univ fun i : Fin 2 => atC c (iYS i)))

/-- Every cell closed, its counter at zero. -/
def closed (c : Dev nD) : sProp 𝕄 :=
  iprop(semVal (kcell (c, iB)) 0 ∗ (bigSep Finset.univ fun k : Fin 8 => semVal (kcell (c, iXS k)) 0) ∗ (bigSep Finset.univ fun k : Fin 8 => semVal (kcell (c, iXR k)) 0)
    ∗ (bigSep Finset.univ fun i : Fin 2 => semVal (kcell (c, iYS i)) 0) ∗ (bigSep Finset.univ fun i : Fin 2 => semVal (kcell (c, iYR i)) 0))

theorem heads_none (c : Dev nD) (f : FVec F S256x1024 .bf16) : own c cc0_scratch2 fullShare f ⊢ heads m ρ c 0 := by
  unfold heads
  iintro H
  iexists f
  iframe H
  ipureintro
  intro i hi
  exact absurd hi (by omega)

/-- The send buffer whole again. -/
theorem back_xs (c : Dev nD) : iprop(own c cc0_scratch0 fullShare.right (XS m ρ c) ∗ xsP c 0 fullShare.left (XS m ρ c) ∗ xsP c 1 fullShare.left (XS m ρ c)
      ∗ xsP c 2 fullShare.left (XS m ρ c) ∗ xsP c 3 fullShare.left (XS m ρ c) ∗ xsP c 4 fullShare.left (XS m ρ c) ∗ xsP c 5 fullShare.left (XS m ρ c)
      ∗ xsP c 6 fullShare.left (XS m ρ c) ∗ xsP c 7 fullShare.left (XS m ρ c))
    ⊢ own c cc0_scratch0 fullShare (XS m ρ c) := by
  rw [halve, cut_xs c fullShare.left, eight]
  iintro ⟨Hr, Hl⟩
  iframe Hr
  iexact Hl

theorem run_body (c : Dev nD) (fo : FVec F S2x256x1024 .f32) :
    Run c iprop(records m ρ K ∗ owed c (.inl true :: .inl false :: lX) ∗ start c ∗ stgs m ρ c ∗ own c cc0_stg8_0 fullShare fo ∗ scr c)
      (here (cc0_body (F := F))) ⟨⟩
      iprop(owed c [] ∗ closed c ∗ stgs m ρ c ∗ own c cc0_stg8_0 fullShare (OUT m ρ c) ∗ scr c) := by
  intro Q
  unfold here; rw [cc0_body_eq_skeleton]; unfold cc0_body_skel
  unfold start stgs scr closed
  rw [eight fun k : Fin 8 => wtok c (iXR k) NX, eight fun k : Fin 8 => atC c (iXS k), eight fun k : Fin 8 => semVal (kcell (c, iXS k)) 0, eight fun k : Fin 8 => semVal (kcell (c, iXR k)) 0,    two fun i : Fin 2 => semVal (kcell (c, iYS i)) 0, two fun i : Fin 2 => semVal (kcell (c, iYR i)) 0, two fun i : Fin 2 => wtok c (iYR i) NY, two fun i : Fin 2 => atC c (iYS i)]
  iintro ⟨⟨#HR, HO, ⟨⟨Ht1, Ht2, Hdx, Hdy⟩, Hwb, ⟨Wr0, Wr1, Wr2, Wr3, Wr4, Wr5, Wr6, Wr7⟩, ⟨Wy0, Wy1⟩, ⟨A0, A1, A2, A3, A4, A5, A6, A7⟩, ⟨B0, B1⟩⟩,
    ⟨G0, G1, G2, G3, G4, G5, G6, G7⟩, G8, ⟨⟨%fx, Hx⟩, ⟨%fr, Hr⟩, ⟨%fb, Hb⟩, ⟨%fy, Hy⟩, ⟨%fz, Hz⟩⟩⟩, Hk⟩
  iapply (seq c (run_part1 m ρ K c fr fz fx)) $$ [HO Ht1 Ht2 Hr Hz Hwb G0 G1 G2 Hx]
  · iframe HR HO Ht1 Ht2 Hr Hz Hwb G0 G1 G2; iexact Hx
  iintro ⟨Hpf, Hpt, Zb, HO, G0, G1, G2, Hx⟩
  dsimp only
  ihave Htx := (tok_x m ρ c) $$ [Hpt Hdx]
  · iframe Hpt; iexact Hdx
  ihave Hty := (tok_y m ρ c) $$ [Hpf Hdy]
  · iframe Hpf; iexact Hdy
  iapply (seq c (run_part2 m ρ K c _ _ fx)) $$ [HO Hx G3 Htx]
  · iframe HR HO Hx G3; iexact Htx
  iintro ⟨HO, G3, Hx, C0, C1, X2, X3, X4, X5, X6, X7⟩
  dsimp only
  iapply (seq c (run_part3 m ρ K c _ _ _ _)) $$ [HO X2 X3 X4]
  · iframe HR HO X2 X3; iexact X4
  iintro ⟨HO, C2, C3, C4⟩
  dsimp only
  iapply (seq c (run_part4 m ρ K c _ _ _ _)) $$ [HO X5 X6 X7 G4]
  · iframe HR HO X5 X6 X7; iexact G4
  iintro ⟨HO, C5, C6, C7, G4⟩
  dsimp only
  iapply (seq c (run_part5 m ρ K c _ _)) $$ [HO G5 G6 G7 Wr0 Wr1 Hx]
  · iframe HR HO G5 G6 G7 Wr0 Wr1; iexact Hx
  iintro ⟨HO, G5, G6, G7, Hx, ⟨R0, Z0⟩, ⟨R1, Z1⟩⟩
  ihave Hb := (heads_none m ρ c fb) $$ Hb
  try dsimp only
  iapply (seq c (run_part6 m ρ c)) $$ [Hx R0 R1 Hb]
  · iframe Hx R0 R1; iexact Hb
  iintro ⟨Hx, R0, R1, Hb⟩
  try dsimp only
  iapply (seq c (run_part7 m ρ c)) $$ Hb
  iintro Hb
  try dsimp only
  iapply (seq c (run_part8 m ρ K c _ _)) $$ [HO Wr2 Hb]
  · iframe HR HO Wr2; iexact Hb
  iintro ⟨HO, ⟨R2, Z2⟩, Hb⟩
  try dsimp only
  iapply (seq c (run_part9 m ρ K c _ _)) $$ [HO Wr3 Hx R2]
  · iframe HR HO Wr3 Hx; iexact R2
  iintro ⟨HO, Hx, R2, ⟨R3, Z3⟩⟩
  try dsimp only
  iapply (seq c (run_part10 m ρ c)) $$ Hb
  iintro Hb
  try dsimp only
  iapply (seq c (run_part11 m ρ c _ _)) $$ Hb
  iintro Hb
  try dsimp only
  iapply (seq c (run_part12 m ρ K c _ _)) $$ [HO Wr4 Wr5 Hx]
  · iframe HR HO Wr4 Wr5; iexact Hx
  iintro ⟨HO, Hx, ⟨R4, Z4⟩, ⟨R5, Z5⟩⟩
  try dsimp only
  iapply (seq c (run_part13 m ρ c)) $$ Hb
  iintro Hb
  try dsimp only
  iapply (seq c (run_part14 m ρ c)) $$ Hb
  iintro Hb
  try dsimp only
  iapply (seq c (run_part15 m ρ K c _ _)) $$ [HO Wr6 Wr7 Hx Hb]
  · iframe HR HO Wr6 Wr7 Hx; iexact Hb
  iintro ⟨HO, Hx, ⟨R6, Z6⟩, ⟨R7, Z7⟩, Hb⟩
  try dsimp only
  iapply (seq c (run_part16 m ρ c)) $$ Hb
  iintro Hb
  try dsimp only
  iapply (seq c (run_part17 m ρ c)) $$ Hb
  iintro Hb
  ihave Hty := (Entails.of_eq (two fun i : Fin 2 => sytok c i)) $$ Hty
  icases Hty with ⟨T0, T1⟩
  try dsimp only
  iapply (seq c (run_part18 m ρ K c _ _ fy)) $$ [HO Hb Hy T0]
  · iframe HR HO Hb Hy; iexact T0
  iintro ⟨HO, Hb, D0, Hy⟩
  try dsimp only
  iapply (seq c (run_part19 m ρ K c _ _ fo)) $$ [HO Hy T1 G8 Wy0]
  · iframe HR HO Hy T1 G8; iexact Wy0
  iintro ⟨HO, D1, G8, Y0, V0⟩
  try dsimp only
  iapply (seq c (run_part20 m ρ K c _ _ _)) $$ [HO G8 Y0 Wy1 C0 A0 C1 A1]
  · unfold wtok; iframe HR HO G8 Y0 Wy1 C0 A0 C1; iexact A1
  iintro ⟨HO, G8, Hz, V1, ⟨S0, U0⟩, ⟨S1, U1⟩⟩
  try dsimp only
  iapply (seq c (run_part21 m ρ K c)) $$ [HO C2 A2 C3 A3 C4 A4 C5 A5 C6 A6]
  · unfold wtok; iframe HR HO C2 A2 C3 A3 C4 A4 C5 A5 C6; iexact A6
  iintro ⟨HO, ⟨S2, U2⟩, ⟨S3, U3⟩, ⟨S4, U4⟩, ⟨S5, U5⟩, ⟨S6, U6⟩⟩
  try dsimp only
  simp only [Prog.lift, Prog.bind_op, Prog.bind_ret, Prog.pure_eq_ret]
  iapply (wait_xs m ρ K c 7 [] rfl (NXs_eq 7) (by decide)) $$ [C7 A7 HO]
  · unfold wtok; iframe HR C7 A7; iexact HO
  iintro ⟨S7, U7, HO⟩
  iapply (wait_ys m ρ K c 0 [] rfl (NYs_eq 0) (by decide)) $$ [D0 B0 HO]
  · unfold wtok; iframe HR D0 B0; iexact HO
  iintro ⟨P0, Q0, HO⟩
  iapply (wait_ys m ρ K c 1 [] rfl (NYs_eq 1) (by decide)) $$ [D1 B1 HO]
  · unfold wtok; iframe HR D1 B1; iexact HO
  iintro ⟨P1, Q1, HO⟩
  iapply (ret_step c _ Q)
  iapply Hk
  ihave Hx := (back_xs m ρ c) $$ [Hx S0 S1 S2 S3 S4 S5 S6 S7]
  · iframe Hx S0 S1 S2 S3 S4 S5 S6; iexact S7
  ihave Hr := (Entails.of_eq ((cut_xr c (XS m ρ (xp c))).trans (eight _)).symm) $$ [R0 R1 R2 R3 R4 R5 R6 R7]
  · iframe R0 R1 R2 R3 R4 R5 R6; iexact R7
  ihave Hy := (Entails.of_eq ((cut_ys c (YS m ρ c)).trans (two _)).symm) $$ [P0 P1]
  · iframe P0; iexact P1
  iframe HO Zb U0 U1 U2 U3 U4 U5 U6 U7 Z0 Z1 Z2 Z3 Z4 Z5 Z6 Z7 Q0 Q1 V0 V1 G0 G1 G2 G3 G4 G5 G6 G7 G8
  isplitl [Hx]; · iexists _; iexact Hx
  isplitl [Hr]; · iexists _; iexact Hr
  isplitl [Hb]; · iexists _; iexact Hb
  isplitl [Hy]; · iexists _; iexact Hy
  iexists _; iexact Hz

end Cert.MlaProof

end
-- ==== Proof.Launch.lean ====
/-
# The run of the whole program

The cells' invariants are opened for all devices at once, the duties dealt along the mesh, and the kernel's region run
from any memory with every semaphore counter at zero. The result array of every device ends holding `OUT`, the
arguments as they were, every counter at zero again.
-/
module

public import proofs.«01_k».proof.Proof.Body
public import proofs.«01_k».proof.Proof.Gen.KernelIdeal.Points
public import Idealize.ShloMosaic.Lib.Pipeline.CollectiveSegs
public import Idealize.ShloMosaic.Lib.Quiescent

@[expose] public section

noncomputable section

namespace Cert.MlaProof

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ UU ℕ

variable (m : (ℓ : Loc nD τ sig) → Buf (Elt F) ℓ) (ρ : Dev nD → PrngReg) (K : Dev nD × CI → ℕ)

/-! ## The pipeline's data -/

abbrev O₀ (c : Dev nD) : CellTallies nD τ sig Unit := owe c (.inl true :: .inl false :: lX)

/-- What a device brings into the kernel. -/
def entry (c : Dev nD) : sProp 𝕄 := iprop((∃ K, records m ρ K) ∗ start c)

def dats (_ : Fin 1) (c : Dev nD) : Dat τ (Elt F) Unit ℕ UU ℕ cfg0 c where
  A w := (s₀ m ρ).mem ((cfg0.win w).arr.view.loc (c : Thread nD τ))
  after w _ := match w with
    | ⟨0, _⟩ => xA m ρ c
    | ⟨1, _⟩ => wDkv m ρ c
    | ⟨2, _⟩ => wUk m ρ c
    | ⟨3, _⟩ => wUv m ρ c
    | ⟨4, _⟩ => wQ m ρ c
    | ⟨5, _⟩ => wQr m ρ c
    | ⟨6, _⟩ => wKr m ρ c
    | ⟨7, _⟩ => wO m ρ c
    | ⟨8, _⟩ => OUT m ρ c
  Φ t := match t with
    | ⟨0, _⟩ => iprop(entry m ρ c ∗ scr c)
    | ⟨_ + 1, _⟩ => iprop(closed c ∗ scr c)
  q _ := fullShare
  owed t := match t with
    | ⟨0, _⟩ => O₀ c
    | ⟨_ + 1, _⟩ => 0

/-- A whole buffer owned is a buffer holding that. -/
theorem owns_whole (c : Dev nD) (b : Ref sig .tc) (X : b.ty.Contents (Elt F)) :
    (owns (Ix := Unit) (Name := ℕ) (U := UU) (Lvl := ℕ) (c : Thread nD τ) (Memref.whole b) fullShare X : sProp 𝕄) = own c b fullShare X := by
  unfold owns
  simp only [Memref.view_whole, View.read_whole, View.set_whole]
  have h1 : (iprop(∃ f : Buf (Elt F) ((c : Thread nD τ).loc b), ⌜f = X⌝ ∗ own c b fullShare f) : sProp 𝕄) ⊢ own c b fullShare X := by
    iintro ⟨%f, %hf, H⟩
    subst hf
    iexact H
  have h2 : own c b fullShare X ⊢ (iprop(∃ f : Buf (Elt F) ((c : Thread nD τ).loc b), ⌜f = X⌝ ∗ own c b fullShare f) : sProp 𝕄) := by
    iintro H
    iexists X
    isplitr; · ipureintro; rfl
    iexact H
  exact Entails.antisymm h1 h2

set_option maxRecDepth 4000 in
/-- The body's obligation to the pipeline. -/
theorem obligation (c : Dev nD) : BodyObligation (dats (F := F) m ρ 0 c) (defs₀ (F := F)) 𝒱₀ () Set.univ := fun t => by
  rw [fin_N0 t]
  rw [bigSep_W0, bigSep_W0]
  simp only [owns_whole]
  show iprop((entry m ρ c ∗ scr c) ∗ (dats m ρ 0 c).owesAt () t0_0.castSucc
      ∗ (∃ d, own c cc0_stg0_0 fullShare ((dats m ρ 0 c).before (0 : Fin 9) t0_0 d)) ∗ (∃ d, own c cc0_stg1_0 fullShare ((dats m ρ 0 c).before (1 : Fin 9) t0_0 d))
      ∗ (∃ d, own c cc0_stg2_0 fullShare ((dats m ρ 0 c).before (2 : Fin 9) t0_0 d)) ∗ (∃ d, own c cc0_stg3_0 fullShare ((dats m ρ 0 c).before (3 : Fin 9) t0_0 d))
      ∗ (∃ d, own c cc0_stg4_0 fullShare ((dats m ρ 0 c).before (4 : Fin 9) t0_0 d)) ∗ (∃ d, own c cc0_stg5_0 fullShare ((dats m ρ 0 c).before (5 : Fin 9) t0_0 d))
      ∗ (∃ d, own c cc0_stg6_0 fullShare ((dats m ρ 0 c).before (6 : Fin 9) t0_0 d)) ∗ (∃ d, own c cc0_stg7_0 fullShare ((dats m ρ 0 c).before (7 : Fin 9) t0_0 d))
      ∗ (∃ d, own c cc0_stg8_0 fullShare ((dats m ρ 0 c).before (8 : Fin 9) t0_0 d)))
    ⊢ WP c (here (cc0_body (F := F))) (fun _ => iprop((closed c ∗ scr c) ∗ (dats m ρ 0 c).owesAt () t0_0.succ
      ∗ own c cc0_stg0_0 fullShare (xA m ρ c) ∗ own c cc0_stg1_0 fullShare (wDkv m ρ c) ∗ own c cc0_stg2_0 fullShare (wUk m ρ c)
      ∗ own c cc0_stg3_0 fullShare (wUv m ρ c) ∗ own c cc0_stg4_0 fullShare (wQ m ρ c) ∗ own c cc0_stg5_0 fullShare (wQr m ρ c)
      ∗ own c cc0_stg6_0 fullShare (wKr m ρ c) ∗ own c cc0_stg7_0 fullShare (wO m ρ c) ∗ own c cc0_stg8_0 fullShare (OUT m ρ c)))
  have e0 : ∀ d, (dats m ρ 0 c).before (0 : Fin 9) t0_0 d = xA m ρ c := fun d => by unfold Dat.before; rw [if_pos (fetch0_0 t0_0)]; rfl
  have e1 : ∀ d, (dats m ρ 0 c).before (1 : Fin 9) t0_0 d = wDkv m ρ c := fun d => by unfold Dat.before; rw [if_pos (fetch0_1 t0_0)]; rfl
  have e2 : ∀ d, (dats m ρ 0 c).before (2 : Fin 9) t0_0 d = wUk m ρ c := fun d => by unfold Dat.before; rw [if_pos (fetch0_2 t0_0)]; rfl
  have e3 : ∀ d, (dats m ρ 0 c).before (3 : Fin 9) t0_0 d = wUv m ρ c := fun d => by unfold Dat.before; rw [if_pos (fetch0_3 t0_0)]; rfl
  have e4 : ∀ d, (dats m ρ 0 c).before (4 : Fin 9) t0_0 d = wQ m ρ c := fun d => by unfold Dat.before; rw [if_pos (fetch0_4 t0_0)]; rfl
  have e5 : ∀ d, (dats m ρ 0 c).before (5 : Fin 9) t0_0 d = wQr m ρ c := fun d => by unfold Dat.before; rw [if_pos (fetch0_5 t0_0)]; rfl
  have e6 : ∀ d, (dats m ρ 0 c).before (6 : Fin 9) t0_0 d = wKr m ρ c := fun d => by unfold Dat.before; rw [if_pos (fetch0_6 t0_0)]; rfl
  have e7 : ∀ d, (dats m ρ 0 c).before (7 : Fin 9) t0_0 d = wO m ρ c := fun d => by unfold Dat.before; rw [if_pos (fetch0_7 t0_0)]; rfl
  simp only [e0, e1, e2, e3, e4, e5, e6, e7]
  unfold entry Dat.owesAt Pipeline.owesWithin
  rw [show (dats m ρ 0 c).owed t0_0.castSucc = O₀ c from rfl, show (dats m ρ 0 c).owed t0_0.succ = owe c [] from rfl]
  iintro ⟨⟨⟨⟨%K, #HR⟩, Hs⟩, Hscr⟩, ⟨%W, %hW, HO⟩, ⟨%d0, G0⟩, ⟨%d1, G1⟩, ⟨%d2, G2⟩, ⟨%d3, G3⟩, ⟨%d4, G4⟩, ⟨%d5, G5⟩, ⟨%d6, G6⟩, ⟨%d7, G7⟩, ⟨%d8, G8⟩⟩
  iapply (run_body m ρ K c ((dats m ρ 0 c).before (8 : Fin 9) t0_0 d8) _)
  isplitr []
  · unfold owed stgs
    isplitr; · iexact HR
    isplitl [HO]; · iexists W; iexact HO
    iframe Hs G0 G1 G2 G3 G4 G5 G6 G7 G8
    iexact Hscr
  · unfold owed stgs
    iintro ⟨⟨%W', HO⟩, Hc, ⟨G0, G1, G2, G3, G4, G5, G6, G7⟩, G8, Hscr⟩
    iframe Hc Hscr G0 G1 G2 G3 G4 G5 G6 G7 G8
    iexists W'
    isplitr; · ipureintro; exact fun _ _ => Or.inl trivial
    iexact HO

/-! ## The cells, their duties and their counters -/

theorem bigSep_CI (Φ : CI → sProp 𝕄) : bigSep Finset.univ Φ
    = iprop(Φ iB ∗ (bigSep Finset.univ fun k : Fin 8 => Φ (iXS k)) ∗ (bigSep Finset.univ fun k : Fin 8 => Φ (iXR k))
      ∗ (bigSep Finset.univ fun i : Fin 2 => Φ (iYS i)) ∗ (bigSep Finset.univ fun i : Fin 2 => Φ (iYR i))) := by
  rw [bigSep_univ_sum, bigSep_univ_sum, bigSep_univ_sum, bigSep_univ_sum, bigSep_univ_of_subsingleton ()]
  rfl

/-- The kernel's own semaphores: the sends' and the receives'. -/
abbrev osem (j : Fin 20) : SemLoc sig := .dma (dsem (9 + j.val) (by omega))
theorem ownSemFacts : Pipeline.OwnSemFacts cfg0.spec osem := by decide

theorem share_eq (c : Dev nD) (w : Fin cfg0.W) : (dats m ρ 0 c).share w = fullShare := by unfold Dat.share; split <;> rfl

theorem unscoped_eq (c : Dev nD) : (unscopedSems0 c : sProp 𝕄) = semVal (kcell (c, iB)) 0 := by
  unfold unscopedSems0; rw [bigSep_eq_bigSepL_of_eq [SemLoc.reg barS] (by decide) (by decide)]; rfl

/-- The counters of a device, the kernel's own and the barrier's, are its cells'. -/
theorem counters (c : Dev nD) :
    iprop(Pipeline.ownSems0 (Ix := Unit) (Name := ℕ) (U := UU) (Lvl := ℕ) (Val := Elt F) (τ := τ) osem c ∗ unscopedSems0 c) = (closed c : sProp 𝕄) := by
  unfold closed
  rw [unscoped_eq, Pipeline.ownSems0_eq_of_list c osem [0, 1, 2, 3, 4, 5, 6, 7, 8, 9, 10, 11, 12, 13, 14, 15, 16, 17, 18, 19] (by decide) (by decide),
    eight fun k : Fin 8 => semVal (kcell (c, iXS k)) 0, eight fun k : Fin 8 => semVal (kcell (c, iXR k)) 0,
    two fun i : Fin 2 => semVal (kcell (c, iYS i)) 0, two fun i : Fin 2 => semVal (kcell (c, iYR i)) 0]
  refine Entails.antisymm ?_ ?_
  · show iprop((semVal (kcell (c, iXS 0)) 0 ∗ semVal (kcell (c, iXS 1)) 0 ∗ semVal (kcell (c, iXS 2)) 0 ∗ semVal (kcell (c, iXS 3)) 0
        ∗ semVal (kcell (c, iXS 4)) 0 ∗ semVal (kcell (c, iXS 5)) 0 ∗ semVal (kcell (c, iXS 6)) 0 ∗ semVal (kcell (c, iXS 7)) 0
        ∗ semVal (kcell (c, iXR 0)) 0 ∗ semVal (kcell (c, iXR 1)) 0 ∗ semVal (kcell (c, iXR 2)) 0 ∗ semVal (kcell (c, iXR 3)) 0
        ∗ semVal (kcell (c, iXR 4)) 0 ∗ semVal (kcell (c, iXR 5)) 0 ∗ semVal (kcell (c, iXR 6)) 0 ∗ semVal (kcell (c, iXR 7)) 0
        ∗ semVal (kcell (c, iYS 0)) 0 ∗ semVal (kcell (c, iYS 1)) 0 ∗ semVal (kcell (c, iYR 0)) 0 ∗ semVal (kcell (c, iYR 1)) 0) ∗ semVal (kcell (c, iB)) 0) ⊢ _
    iintro ⟨⟨S0, S1, S2, S3, S4, S5, S6, S7, R0, R1, R2, R3, R4, R5, R6, R7, P0, P1, Q0, Q1⟩, B⟩
    iframe S0 S1 S2 S3 S4 S5 S6 S7 R0 R1 R2 R3 R4 R5 R6 R7 P0 P1 Q0 Q1
    iexact B
  · show _ ⊢ iprop((semVal (kcell (c, iXS 0)) 0 ∗ semVal (kcell (c, iXS 1)) 0 ∗ semVal (kcell (c, iXS 2)) 0 ∗ semVal (kcell (c, iXS 3)) 0
        ∗ semVal (kcell (c, iXS 4)) 0 ∗ semVal (kcell (c, iXS 5)) 0 ∗ semVal (kcell (c, iXS 6)) 0 ∗ semVal (kcell (c, iXS 7)) 0
        ∗ semVal (kcell (c, iXR 0)) 0 ∗ semVal (kcell (c, iXR 1)) 0 ∗ semVal (kcell (c, iXR 2)) 0 ∗ semVal (kcell (c, iXR 3)) 0
        ∗ semVal (kcell (c, iXR 4)) 0 ∗ semVal (kcell (c, iXR 5)) 0 ∗ semVal (kcell (c, iXR 6)) 0 ∗ semVal (kcell (c, iXR 7)) 0
        ∗ semVal (kcell (c, iYS 0)) 0 ∗ semVal (kcell (c, iYS 1)) 0 ∗ semVal (kcell (c, iYR 0)) 0 ∗ semVal (kcell (c, iYR 1)) 0) ∗ semVal (kcell (c, iB)) 0)
    iintro ⟨B, ⟨S0, S1, S2, S3, S4, S5, S6, S7⟩, ⟨R0, R1, R2, R3, R4, R5, R6, R7⟩, ⟨P0, P1⟩, Q0, Q1⟩
    iframe S0 S1 S2 S3 S4 S5 S6 S7 R0 R1 R2 R3 R4 R5 R6 R7 P0 P1 Q0 Q1
    iexact B

def cells : Finset (GSem nD τ sig) := Finset.univ.map ⟨kcell, kcell_injective⟩

/-- The duties of a device's own cells: one `false` duty each, and the barrier's `true`. -/
abbrev tokOf (ct : Dev nD × (CI ⊕ Unit)) : GSem nD τ sig × ℕ × Bool :=
  match ct.2 with
  | .inl i => (kcell (ct.1, i), 0, false)
  | .inr _ => (kcell (ct.1, iB), 0, true)
theorem tokOf_injective : Function.Injective (tokOf : Dev nD × (CI ⊕ Unit) → GSem nD τ sig × ℕ × Bool) := by
  rintro ⟨c, i | u⟩ ⟨c', i' | u'⟩ h
  · have e : (c, i) = (c', i') := kcell_injective (congrArg Prod.fst h)
    rw [(Prod.mk.inj e).1, (Prod.mk.inj e).2]
  · exact absurd (congrArg (fun x : GSem nD τ sig × ℕ × Bool => x.2.2) h) (fun e => by cases e)
  · exact absurd (congrArg (fun x : GSem nD τ sig × ℕ × Bool => x.2.2) h) (fun e => by cases e)
  · have e : (c, iB) = (c', iB) := kcell_injective (congrArg Prod.fst h)
    rw [(Prod.mk.inj e).1]
def mint : Finset (GSem nD τ sig × ℕ × Bool) := Finset.univ.map ⟨tokOf, tokOf_injective⟩

def u₀ : UU := (initOf (Pipeline.cells cfgs cellOf_inj) (Pipeline.launchToks cfgs cellOf_inj), initOf cells mint)

/-- The duty tokens of device `c`'s own cells. -/
def minted (c : Dev nD) : sProp 𝕄 :=
  iprop((bigSep Finset.univ fun i : CI => dutyTok ER (kcell (c, i)) 0 false) ∗ dutyTok ER (kcell (c, iB)) 0 true)
/-- The duty tokens device `c` pays with. -/
def purse (c : Dev nD) : sProp 𝕄 :=
  iprop(dutyTok ER (kcell (xp c, iB)) 0 true ∗ dutyTok ER (kcell (yp c, iB)) 0 false ∗ (bigSep Finset.univ fun k => sxd c k) ∗ (bigSep Finset.univ fun i => syd c i))
/-- What the launch element deals device `c`, and what the global step makes of it. -/
def G (c : Dev nD) : sProp 𝕄 :=
  iprop((bigSep Finset.univ fun i : CI => roundState ER (sch m ρ) (kcell (c, i)) 0)
    ∗ (bigSep Finset.univ fun i : CI => iprop(atC c i ∗ reached ER (kcell (c, i)) 0)) ∗ minted c)
def shared (K : Dev nD × CI → ℕ) : sProp 𝕄 :=
  iprop((bigSep Finset.univ fun ci : Dev nD × CI => cellInv ER (sch m ρ) (K ci) (kcell ci)) ∗ bigSep Finset.univ fun ci : Dev nD × CI => reached ER (kcell ci) 0)
instance shared_persistent (K : Dev nD × CI → ℕ) : BI.Persistent (shared m ρ K) := by unfold shared; infer_instance
def G' (c : Dev nD) : sProp 𝕄 := iprop((∃ K, shared m ρ K) ∗ (bigSep Finset.univ fun i : CI => atC c i) ∗ purse c)

theorem fund_cells : BI.own (ER (initOf cells mint)) ⊢ (|==> bigSep Finset.univ (G m ρ) : sProp 𝕄) := by
  have hX (Φ : GSem nD τ sig → sProp 𝕄) : bigSep cells Φ = bigSep Finset.univ fun c : Dev nD => bigSep Finset.univ fun i : CI => Φ (kcell (c, i)) := by
    unfold cells; rw [bigSep_map, bigSep_univ_prod]; rfl
  have hT : bigSep mint (fun x => (dutyTok ER x.1 x.2.1 x.2.2 : sProp 𝕄)) = bigSep Finset.univ fun c : Dev nD => minted c := by
    unfold mint; rw [bigSep_map, bigSep_univ_prod]
    exact bigSep_congr fun c _ => by unfold minted; rw [bigSep_univ_sum, bigSep_univ_of_subsingleton ()]; rfl
  iintro HX
  imod (Rounds.fund ER (sch m ρ) cells mint) $$ HX with ⟨Hst, Hr, Hat, Htok⟩
  imodintro
  ihave Hst := (Entails.of_eq (hX fun g => roundState ER (sch m ρ) g 0)) $$ Hst
  ihave Hat := (Entails.of_eq (hX fun g => atPos ER g 0 ∅ 0)) $$ Hat
  ihave Hr := (Entails.of_eq (hX fun g => reached ER g 0)) $$ Hr
  ihave Htok := (Entails.of_eq hT) $$ Htok
  unfold G; simp only [bigSep_sep']
  iframe Hst Hat Hr
  iexact Htok

/-- One device's cells under invariants. -/
theorem open_cells (c : Dev nD) :
    iprop(Pipeline.ownSems0 (Ix := Unit) (Name := ℕ) (U := UU) (Lvl := ℕ) (Val := Elt F) (τ := τ) osem c ∗ unscopedSems0 c ∗ G m ρ c)
      ⊢ |={Set.univ}=> iprop((bigSep Finset.univ fun i : CI => iprop(∃ κ : ℕ, cellInv ER (sch m ρ) κ (kcell (c, i))))
          ∗ (bigSep Finset.univ fun i : CI => iprop(atC c i ∗ reached ER (kcell (c, i)) 0)) ∗ minted c) := by
  have hv : (closed c : sProp 𝕄) = bigSep Finset.univ fun i : CI => semVal (kcell (c, i)) 0 := by rw [bigSep_CI]; rfl
  have ha : iprop((bigSep Finset.univ fun i : CI => semVal (kcell (c, i)) 0) ∗ bigSep Finset.univ fun i : CI => roundState ER (sch m ρ) (kcell (c, i)) 0)
      ⊢ (|={Set.univ}=> bigSep Finset.univ fun i : CI => iprop(∃ κ : ℕ, cellInv ER (sch m ρ) κ (kcell (c, i))) : sProp 𝕄) := by
    rw [← bigSep_sep']
    exact (bigSep_mono fun i _ => (Rounds.body_intro ER (sch m ρ) (kcell (c, i))).trans inv_alloc).trans (bigSep_fupd _ _)
  unfold G
  iintro ⟨Hos, Hus, Hst, Hat, Htok⟩
  ihave Hv := (Entails.of_eq ((counters c).trans hv)) $$ [Hos Hus]
  · iframe Hos; iexact Hus
  imod ha $$ [Hv Hst] with Hinv
  · iframe Hv; iexact Hst
  imodintro
  iframe Hinv Hat
  iexact Htok

/-- The duties dealt along the mesh: a device pays the barriers and the receives of its two neighbours, and its own sends. -/
theorem deal : (bigSep Finset.univ fun c : Dev nD => (minted c : sProp 𝕄)) ⊢ bigSep Finset.univ fun c : Dev nD => purse c := by
  have e : ∀ c : Dev nD, (minted c : sProp 𝕄) = iprop((dutyTok ER (kcell (c, iB)) 0 false ∗ (bigSep Finset.univ fun k : Fin 8 => dutyTok ER (kcell (c, iXS k)) 0 false)
      ∗ (bigSep Finset.univ fun k : Fin 8 => dutyTok ER (kcell (c, iXR k)) 0 false) ∗ (bigSep Finset.univ fun i : Fin 2 => dutyTok ER (kcell (c, iYS i)) 0 false)
      ∗ (bigSep Finset.univ fun i : Fin 2 => dutyTok ER (kcell (c, iYR i)) 0 false)) ∗ dutyTok ER (kcell (c, iB)) 0 true) := fun c => by
    unfold minted; rw [bigSep_CI]
  have p : ∀ c : Dev nD, (purse c : sProp 𝕄) = iprop(dutyTok ER (kcell (xp c, iB)) 0 true ∗ dutyTok ER (kcell (yp c, iB)) 0 false
      ∗ ((bigSep Finset.univ fun k : Fin 8 => dutyTok ER (kcell (c, iXS k)) 0 false) ∗ (bigSep Finset.univ fun k : Fin 8 => dutyTok ER (kcell (xp c, iXR k)) 0 false))
      ∗ ((bigSep Finset.univ fun i : Fin 2 => dutyTok ER (kcell (c, iYS i)) 0 false) ∗ (bigSep Finset.univ fun i : Fin 2 => dutyTok ER (kcell (yp c, iYR i)) 0 false))) := fun c => by
    unfold purse; rw [bigSep_sep', bigSep_sep']
  simp only [e, p, bigSep_sep']
  rw [bigSep_univ_equiv xpE (fun c : Dev nD => (dutyTok ER (kcell (c, iB)) 0 true : sProp 𝕄)),
    bigSep_univ_equiv ypE (fun c : Dev nD => (dutyTok ER (kcell (c, iB)) 0 false : sProp 𝕄)),
    bigSep_univ_equiv xpE (fun c : Dev nD => (bigSep Finset.univ fun k : Fin 8 => dutyTok ER (kcell (c, iXR k)) 0 false : sProp 𝕄)),
    bigSep_univ_equiv ypE (fun c : Dev nD => (bigSep Finset.univ fun i : Fin 2 => dutyTok ER (kcell (c, iYR i)) 0 false : sProp 𝕄))]
  iintro ⟨⟨H1, H2, H3, H4, H5⟩, H6⟩
  isplitl [H6]; · iexact H6
  isplitl [H1]; · iexact H1
  isplitl [H2 H3]; · isplitl [H2]; · iexact H2
                     iexact H3
  isplitl [H4]; · iexact H4
  iexact H5

theorem regroup :
    (bigSep Finset.univ fun c : Dev nD => iprop((bigSep Finset.univ fun i : CI => iprop(∃ κ : ℕ, cellInv ER (sch m ρ) κ (kcell (c, i))))
          ∗ (bigSep Finset.univ fun i : CI => iprop(atC c i ∗ reached ER (kcell (c, i)) 0)) ∗ minted c) : sProp 𝕄)
      ⊢ bigSep Finset.univ (G' m ρ) := by
  rw [bigSep_sep', bigSep_sep', ← bigSep_univ_prod (fun ci : Dev nD × CI => iprop(∃ κ : ℕ, cellInv ER (sch m ρ) κ (kcell ci))),
    bigSep_congr (s := Finset.univ) (fun (c : Dev nD) _ => bigSep_sep' Finset.univ (fun i : CI => (atC c i : sProp 𝕄)) (fun i => reached ER (kcell (c, i)) 0)),
    bigSep_sep', ← bigSep_univ_prod (fun ci : Dev nD × CI => (reached ER (kcell ci) 0 : sProp 𝕄))]
  unfold G'
  rw [bigSep_sep', bigSep_sep']
  iintro ⟨HI, ⟨Hat, #HR⟩, Htok⟩
  ihave HK := (BI.bigSep_exists_pi Finset.univ (fun (ci : Dev nD × CI) (κ : ℕ) => (cellInv ER (sch m ρ) κ (kcell ci) : sProp 𝕄))) $$ HI
  icases HK with ⟨%K, #HI⟩
  isplitr
  · have h0 : shared m ρ K ⊢ iprop(∃ K, shared m ρ K) := by iintro H; iexists K; iexact H
    have h : shared m ρ K ⊢ bigSep Finset.univ fun _ : Dev nD => iprop(∃ K, shared m ρ K) :=
      (BI.bigSep_of_persistent Finset.univ (shared m ρ K)).trans (bigSep_mono fun c _ => h0)
    iapply h
    unfold shared
    isplitr; · iexact HI
    iexact HR
  isplitl [Hat]; · iexact Hat
  iapply (deal (F := F)); iexact Htok

/-- The step taken over all devices' semaphores at once. -/
theorem glob : (bigSep Finset.univ fun c => iprop(Pipeline.ownSems0 (Ix := Unit) (Name := ℕ) (U := UU) (Lvl := ℕ) (Val := Elt F) (τ := τ) osem c ∗ unscopedSems0 c ∗ G m ρ c) : sProp 𝕄)
    ⊢ |={Set.univ}=> bigSep Finset.univ (G' m ρ) :=
  ((bigSep_mono fun c _ => open_cells m ρ c).trans (bigSep_fupd _ _)).trans (BI.fupd_mono (regroup m ρ))

/-! ## The launch credit -/

/-- What a cell is owed at launch. -/
def tot : CI → ℕ
  | .inl _ => 2
  | .inr (.inl _) => 0
  | .inr (.inr (.inl _)) => NX
  | .inr (.inr (.inr (.inl _))) => 0
  | .inr (.inr (.inr (.inr _))) => NY

/-- What all devices together owe one cell along a list of payments. -/
theorem owe_sum (c : Dev nD) (i : CI) (l : List IT) :
    ∑ d : Dev nD, owe d l (kcell (c, i)) () = (l.map fun a => if i = idx a then amt (idx a) else 0).sum := by
  induction l with
  | nil => exact Finset.sum_eq_zero fun d _ => rfl
  | cons a l ih =>
    have h : ∀ d : Dev nD, owe d (a :: l) (kcell (c, i)) () = owe d l (kcell (c, i)) () + if d = (dst a).symm c then (if i = idx a then amt (idx a) else 0) else 0 := fun d => by
      show (owe d l + tallyAt (kcell (dst a d, idx a)) () (amt (idx a))) (kcell (c, i)) () = _
      rw [Pi.add_apply, Finsupp.add_apply, tallyAt_apply]
      congr 1
      by_cases hd : d = (dst a).symm c
      · subst hd
        rw [Equiv.apply_symm_apply, if_pos rfl]
        by_cases hi : i = idx a
        · rw [if_pos hi, if_pos ⟨by rw [hi], rfl⟩]
        · rw [if_neg hi, if_neg fun h => hi (Prod.mk.inj (kcell_injective h.1)).2]
      · rw [if_neg hd, if_neg fun h => hd (by rw [(Prod.mk.inj (kcell_injective h.1)).1, Equiv.symm_apply_apply])]
    rw [Finset.sum_congr rfl fun d _ => h d, Finset.sum_add_distrib, ih, Finset.sum_ite_eq' Finset.univ, if_pos (Finset.mem_univ _), List.map_cons, List.sum_cons, Nat.add_comm]

theorem owe_tot (i : CI) : ((.inl true :: .inl false :: lX : List IT).map fun a => if i = idx a then amt (idx a) else 0).sum = tot i := by
  rcases i with u | k | k | k | k
  · simp [lX, lY, idx, tot, amt]
  · simp [lX, lY, idx, tot]
  · fin_cases k <;> simp [lX, lY, idx, tot, amt]
  · simp [lX, lY, idx, tot]
  · fin_cases k <;> simp [lX, lY, idx, tot, amt]

theorem launch_tot (c : Dev nD) (i : CI) :
    tallyOn (kcell (c, i)) (launchCredit (Pipeline.owing O₀) 0 (kcell (c, i))) = (tallyAt (kcell (c, i)) () (tot i) : CellTallies nD τ sig Unit) := by
  unfold tallyAt; refine congrArg _ (Finsupp.ext fun u => ?_); cases u
  rw [Pipeline.launchCredit_owing, Finsupp.single_eq_same]
  exact (owe_sum c i _).trans (owe_tot i)

theorem credits (c : Dev nD) : (Pipeline.launchCred O₀ c : sProp 𝕄) ⊢ bigSep Finset.univ fun i : CI => cred (tallyAt (kcell (c, i)) () (tot i)) := by
  unfold Pipeline.launchCred
  refine (bigSep_subset (Finset.subset_univ (Finset.univ.map ⟨csem, csem_injective⟩))).trans ?_
  rw [bigSep_map]
  exact Entails.of_eq (bigSep_congr fun i _ => congrArg cred (launch_tot c i))

/-! ## The sides of the launch theorem -/

theorem entry_intro (c : Dev nD) :
    iprop(Pipeline.unscopedRestP Pipeline.Prefetch.none cfg0.spec c (fun b => m ((c : Thread nD τ).loc b)) ∗ levAts L lv
        ∗ Pipeline.launchCred O₀ c ∗ prngReg c (ρ c) ∗ G' m ρ c)
      ⊢ |={Set.univ}=> iprop(entry m ρ c ∗ emp) := by
  iintro ⟨-, #Hlev, Hcr, -, HG⟩
  ihave Hc := (credits (F := F) c) $$ Hcr
  ihave Hc := (Entails.of_eq (bigSep_CI fun i : CI => cred (tallyAt (kcell (c, i)) () (tot i)))) $$ Hc
  unfold G' shared
  icases HG with ⟨⟨%K, #HI, #HR⟩, Hat, Hp⟩
  ihave Hat := (Entails.of_eq (bigSep_CI fun i : CI => atC c i)) $$ Hat
  icases Hc with ⟨CB, -, CR, -, CY⟩
  icases Hat with ⟨AB, AXS, AXR, AYS, AYR⟩
  imodintro
  isplitl
  · unfold entry start records wtok purse
    simp only [bigSep_sep']
    isplitr
    · iexists K
      isplitr; · iexact HI
      isplitr; · iexact HR
      iexact Hlev
    icases Hp with ⟨P1, P2, P3, P4⟩
    isplitl [P1 P2 P3 P4]
    · isplitl [P1]; · iexact P1
      isplitl [P2]; · iexact P2
      isplitl [P3]; · iexact P3
      iexact P4
    isplitl [CB AB]; · isplitl [CB]; · iexact CB
                       iexact AB
    isplitl [CR AXR]; · isplitl [CR]; · iexact CR
                        iexact AXR
    isplitl [CY AYR]; · isplitl [CY]; · iexact CY
                        iexact AYR
    isplitl [AXS]; · iexact AXS
    iexact AYS
  · iempintro

theorem enter (c : Dev nD) :
    iprop(entry m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = iprop(entry m ρ c ∗ scr c) from rfl, scopedRest0_eq]
  unfold scr
  iintro ⟨Hs, -, Hr⟩
  isplitl [Hs]; · iexact Hs
  iexact Hr

theorem leave (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = iprop(closed c ∗ scr c) from rfl, scopedRest0_eq, ← counters]
  unfold scr
  iintro ⟨⟨Ho, Hu⟩, Hr⟩
  isplitl [Hu]; · iexact Hu
  isplitl [Ho]; · iexact Ho
  iexact Hr

/-- The waits of the pipeline's own copies: below every payment. -/
theorem waits (c : Dev nD) : (levAts L lv : sProp 𝕄) ⊢ Pipeline.cellsWaits cfgs (dats m ρ) () 0 c :=
  Pipeline.cellsWaits_intro cfgs (dats m ρ) () 0 c fun w s t => by
    have hl : (dec (SemLoc.dma ((cfg0.win w).sem s))).elim 0 lvI ≤ 0 := by revert s; fin_cases w <;> decide
    rcases t with ⟨_ | _, ht⟩
    · exact mayWait c _ (.inl true :: .inl false :: lX) 0 hl (by decide)
    · exact mayWait c _ [] 0 hl (by simp)

/-! ## The run -/

def finalA (c : Dev nD) (w : Fin cfg0.W) : Buf (Elt F) ((cfg0.win w).arr.view.loc (c : Thread nD τ)) := (dats m ρ 0 c).arrAt w cfg0.N

def QC : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- For any float values, from any memory with zero counters: every weakly fair execution of the four devices terminates,
    and every final state has each array at the contents computed and every counter at zero. -/
theorem run_main : θ_run defs (onTc (τ := τ) (main (F := F))) (s₀ m ρ) (fun r => QC m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := obligation m ρ) (hne := fun w => block_pos0 w) (harr := arr_whole0) (hstage := stage_whole0) (hshare := share_eq m ρ)
    (hdistinct := winFacts0.arr_inj)
    (O₀ := O₀) (howed₀ := fun _ => rfl) (howedN := fun _ => rfl)
    (L := L) (lv := lv) (hL := L_of_ne) (hwaits := waits m ρ)
    (G := G m ρ) (G' := G' m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := entry m ρ) (Y := fun c => unscopedSems0 c) (Z := fun _ => iprop(emp))
    (hX := entry_intro m ρ) (hin := enter m ρ) (hout := leave m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The arguments hold what they held. -/
theorem finalA_in (c : Dev nD) (w : Fin cfg0.W) (h : (cfg0.win w).isOut = false) :
    finalA m ρ c w = (s₀ m ρ).mem ((cfg0.win w).arr.view.loc (c : Thread nD τ)) :=
  (dats (F := F) m ρ 0 c).arrAt_in w h _

end Cert.MlaProof

end
-- ==== Proof.Frames.lean ====
/-
# The frames, and the constant named

The kernel's frame is read off the run written once for any float values: with the named constant taken to be its own
literal, the program run there is the kernel itself.
-/
module

public import proofs.«01_k».proof.Defs
public import proofs.«01_k».proof.Proof.Launch
public import proofs.«01_k».proof.Proof.Gen.Kernel
public import proofs.«01_k».proof.Proof.Gen.ReferenceIdeal.Run

@[expose] public section

noncomputable section

namespace Cert.MlaProof

open Idealize.ShloMosaic Idealize.ShloMosaic.TcCoe Idealize.SL.Sem
open Cert.KernelIdeal Cert.KernelIdeal.Gen

variable {F : FTy → Type} [FloatOps F] [Named F]
variable (m : (ℓ : Loc nD τ sig) → Buf (Elt F) ℓ) (ρ : Dev nD → PrngReg)

/-- Every final state holds the arguments unchanged and zero counters. -/
theorem run_args : θ_run defs (onTc (τ := τ) (main (F := F))) (s₀ m ρ) (fun r => (∀ c : Dev nD,
      r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7))
      ∧ r.2.sem = fun _ => 0) :=
  (θ_run defs _ _).mono (fun r h => ⟨fun c =>
    ⟨(h.1 c 0).trans (finalA_in m ρ c 0 rfl), (h.1 c 1).trans (finalA_in m ρ c 1 rfl), (h.1 c 2).trans (finalA_in m ρ c 2 rfl),
      (h.1 c 3).trans (finalA_in m ρ c 3 rfl), (h.1 c 4).trans (finalA_in m ρ c 4 rfl), (h.1 c 5).trans (finalA_in m ρ c 5 rfl),
      (h.1 c 6).trans (finalA_in m ρ c 6 rfl), (h.1 c 7).trans (finalA_in m ρ c 7 rfl)⟩, h.2⟩) (run_main m ρ)

/-- A named constant read as its own literal. -/
@[reducible] def literal : Named Bits where
  named _ _ {φ} bits := Scalar.ofBits φ bits

theorem frame_kernelIdeal : Cert.quiescent_KernelIdeal := fun m ρ _ => run_args (F := Ideal) m ρ

section
attribute [local instance] literal

theorem bodies_eq : Cert.Kernel.defs₀ (F := Bits) = Cert.KernelIdeal.defs₀ (F := Bits) := by
  unfold Cert.Kernel.defs₀ Cert.KernelIdeal.defs₀
  refine congrArg Defs.onTc ?_
  funext ⟨l, hl⟩ x
  cases l with
  | zero => rcases x with ⟨t, s⟩; rfl
  | succ n => exact absurd hl (by omega)

theorem defs_eq : Cert.Kernel.defs (F := Bits) = Cert.KernelIdeal.defs (F := Bits) := by
  unfold Cert.Kernel.defs Cert.KernelIdeal.defs
  rw [bodies_eq]
  rfl

theorem frame_kernel : Cert.quiescent_Kernel := fun m ρ _ => by
  rw [defs_eq]
  exact run_args (F := Bits) m ρ

end

theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem preserves : Cert.preserves_Kernel_KernelIdeal :=
  IdealRules.named_const.statement Cert.KernelIdeal.κ "scale" .f32 0x3DD105EC#32 (((Real.sqrt 96)⁻¹ : ℝ) : EReal) rfl

end Cert.MlaProof

end
-- ==== Proof.Result.lean ====
/-
# Where the run leaves the result

Every window of the call is a whole array. So what a device stages of an operand is the operand, and the result array
ends at what the body left in the result's buffer.
-/
module

public import proofs.«01_k».proof.Proof.Launch
public import proofs.«01_k».proof.Proof.Gen.KernelIdeal.Points

@[expose] public section

noncomputable section

namespace Cert.MlaProof

open Idealize.ShloMosaic Idealize.ShloMosaic.TcCoe Idealize.SL.Sem
open Cert.KernelIdeal Cert.KernelIdeal.Gen

variable {F : FTy → Type} [FloatOps F] [Named F]
variable (m : (ℓ : Loc nD τ sig) → Buf (Elt F) ℓ) (ρ : Dev nD → PrngReg)

/-- A block at the origin reads its array at its own coordinates. -/
theorem read_rect {α : Type} (w : Pipeline.Window sig grid0) (h0 : ∀ a, w.index t0_0 a = 0) (X : w.shape.Idx → α)
    (i : (w.xblock (grid0.coords t0_0)).Idx) (k : w.shape.Idx) (hk : ∀ a, (k a).val = (i a).val) : X ((w.rect t0_0).emb i) = X k :=
  congrArg X (funext fun a => Fin.ext ((Pipeline.Window.rect_emb_val_of_index_zero w t0_0 a (h0 a) i).trans (hk a).symm))

theorem xA_eq (c : Dev nD) : xA m ρ c = m ((c : Thread nD τ).loc main_arg0) :=
  funext fun i => read_rect win0_0 (fun _ => rfl) (m ((c : Thread nD τ).loc main_arg0)) i i fun _ => rfl
theorem wDkv_eq (c : Dev nD) : wDkv m ρ c = m ((c : Thread nD τ).loc main_arg1) :=
  funext fun i => read_rect win0_1 (fun _ => rfl) (m ((c : Thread nD τ).loc main_arg1)) i i fun _ => rfl
theorem wUk_eq (c : Dev nD) : wUk m ρ c = m ((c : Thread nD τ).loc main_arg2) :=
  funext fun i => read_rect win0_2 (fun _ => rfl) (m ((c : Thread nD τ).loc main_arg2)) i i fun _ => rfl
theorem wUv_eq (c : Dev nD) : wUv m ρ c = m ((c : Thread nD τ).loc main_arg3) :=
  funext fun i => read_rect win0_3 (fun _ => rfl) (m ((c : Thread nD τ).loc main_arg3)) i i fun _ => rfl
theorem wQ_eq (c : Dev nD) : wQ m ρ c = m ((c : Thread nD τ).loc main_arg4) :=
  funext fun i => read_rect win0_4 (fun _ => rfl) (m ((c : Thread nD τ).loc main_arg4)) i i fun _ => rfl
theorem wQr_eq (c : Dev nD) : wQr m ρ c = m ((c : Thread nD τ).loc main_arg5) :=
  funext fun i => read_rect win0_5 (fun _ => rfl) (m ((c : Thread nD τ).loc main_arg5)) i i fun _ => rfl
theorem wKr_eq (c : Dev nD) : wKr m ρ c = m ((c : Thread nD τ).loc main_arg6) :=
  funext fun i => read_rect win0_6 (fun _ => rfl) (m ((c : Thread nD τ).loc main_arg6)) i i fun _ => rfl
theorem wO_eq (c : Dev nD) : wO m ρ c = m ((c : Thread nD τ).loc main_arg7) :=
  funext fun i => read_rect win0_7 (fun _ => rfl) (m ((c : Thread nD τ).loc main_arg7)) i i fun _ => rfl

/-- The result array ends at what the body computed. -/
theorem finalA_out (c : Dev nD) : finalA m ρ c 8 = OUT m ρ c :=
  (dats m ρ 0 c).arrAt_eq_of_cover 8 (OUT m ρ c) (fun t _ => by
    obtain rfl := fin_N0 t
    exact funext fun i => (read_rect win0_8 (fun _ => rfl) (OUT m ρ c) i i fun _ => rfl).symm) fun i => by
    refine ⟨t0_0, rfl, ?_⟩
    have h := ((cfg0.win 8).blk t0_0).view.emb_mem_set i
    rw [show ((cfg0.win 8).blk t0_0).view.emb i = i from read_rect win0_8 (fun _ => rfl) id i i fun _ => rfl] at h
    exact h

end Cert.MlaProof

end
-- ==== Proof.Math.lean ====
/-
# Multi-head latent attention over the extended reals

The mathematics that both programs compute, for one batch row and entry by entry: the latent `x Wdkv`, keys and values
from it, queries, the rotary queries and keys, sixteen heads of softmax attention, the product with the output weights.
Beside it the one law the split of the latent dimension rests on: a product over 128 latent coordinates is the sum of
the products over its two halves (`parts_add`).
-/
module

public import Idealize.ShloMosaic.PureOps.Ideal.Laws
public import Idealize.ShloMosaic.Lib.ValueIdx

@[expose] public section

noncomputable section

namespace Cert.MlaProof

open Idealize.ShloMosaic Idealize.ShloMosaic.ValueIdx
open scoped BigOperators

/-- A matrix by its coordinates. -/
abbrev Mat (a b : ℕ) := Fin a → Fin b → EReal

/-- The product. -/
def mm {a k b : ℕ} (A : Mat a k) (B : Mat k b) : Mat a b := fun i j => ∑ l, A i l * B l j

/-- An array of two axes as a matrix. -/
def arr2 {a b : ℕ} (X : (⟨2, ![a, b]⟩ : Shape).Idx → EReal) : Mat a b := fun i j => X (ix2 i j)

/-- One member of an array of three axes, as a matrix. -/
def arr3 {n a b : ℕ} (X : (⟨3, ![n, a, b]⟩ : Shape).Idx → EReal) (y : Fin n) : Mat a b := fun i j => X (ix3 y i j)

/-- Head `h`'s columns among the 1024. -/
def colH (h : Fin 16) (d : Fin 64) : Fin 1024 := ⟨64 * h.val + d.val, by omega⟩
/-- Head `h`'s columns among the 512 rotary ones. -/
def colR (h : Fin 16) (r : Fin 32) : Fin 512 := ⟨32 * h.val + r.val, by omega⟩
/-- The head a column belongs to, and its place there. -/
def headOf (n : Fin 1024) : Fin 16 := ⟨n.val / 64, by omega⟩
def laneOf (n : Fin 1024) : Fin 64 := ⟨n.val % 64, by omega⟩

theorem colH_headOf (n : Fin 1024) : colH (headOf n) (laneOf n) = n := Fin.ext (Nat.div_add_mod _ _)

/-- Head `h`'s scores, before the scale. -/
def scoreM (q : Mat 256 1024) (qr : Mat 256 512) (kr : Mat 256 32) (k : Mat 256 1024) (h : Fin 16) : Mat 256 256 :=
  fun s t => ∑ d, q s (colH h d) * k t (colH h d) + ∑ r, qr s (colR h r) * kr t r

/-- A row's maximum. -/
def rowMax (l : Mat 256 256) (s : Fin 256) : EReal :=
  (Finset.univ : Finset (Fin 256)).fold max (Ideal.ofBits .f32 0xFF800000#32) (l s)

/-- The exponentials of a row, its maximum taken off. -/
def expM (l : Mat 256 256) : Mat 256 256 := fun s t => Ideal.exp (l s t - rowMax l s)

/-- The softmax of every row. -/
def softM (l : Mat 256 256) : Mat 256 256 := fun s t => Ideal.div (expM l s t) (∑ u, expM l s u)

/-- The scaled scores. -/
def scaled (l : Mat 256 256) : Mat 256 256 := fun s t => l s t * (((Real.sqrt 96)⁻¹ : ℝ) : EReal)

/-- The heads' outputs side by side. -/
def attend (q : Mat 256 1024) (qr : Mat 256 512) (kr : Mat 256 32) (k v : Mat 256 1024) : Mat 256 1024 :=
  fun s n => ∑ t, softM (scaled (scoreM q qr kr k (headOf n))) s t * v t n

/-- The layer, for one batch row. -/
def mla (x : Mat 256 1024) (wd : Mat 1024 128) (wk wv : Mat 128 1024) (wq : Mat 1024 1024) (wqr : Mat 1024 512) (wkr : Mat 1024 32)
    (wo : Mat 1024 1024) : Mat 256 1024 :=
  mm (attend (mm x wq) (mm x wqr) (mm x wkr) (mm (mm x wd) wk) (mm (mm x wd) wv)) wo

/-! ## The split of the latent dimension -/

/-- Column `l` of half `p` among the 128. -/
def half (p : Fin 2) (l : Fin 64) : Fin 128 := ⟨64 * p.val + l.val, by omega⟩

/-- What half `p` of the latent dimension contributes. -/
def part (x : Mat 256 1024) (wd : Mat 1024 128) (w : Mat 128 1024) (p : Fin 2) : Mat 256 1024 :=
  mm (mm x fun j l => wd j (half p l)) fun l n => w (half p l) n

theorem sum_half (f : Fin 128 → EReal) : ∑ l, f l = ∑ l, f (half 0 l) + ∑ l, f (half 1 l) := by
  refine (Fin.sum_univ_add (a := 64) (b := 64) f).trans ?_
  refine congrArg₂ (· + ·) (Finset.sum_congr rfl fun l _ => congrArg f (Fin.ext ?_)) (Finset.sum_congr rfl fun l _ => congrArg f (Fin.ext ?_))
  · show l.val = 64 * 0 + l.val
    omega
  · show 64 + l.val = 64 * 1 + l.val
    omega

/-- The two halves' contributions, in either order, add up to the whole. -/
theorem parts_add (x : Mat 256 1024) (wd : Mat 1024 128) (w : Mat 128 1024) (p q : Fin 2) (h : p.val + q.val = 1) (s : Fin 256) (n : Fin 1024) :
    part x wd w p s n + part x wd w q s n = mm (mm x wd) w s n := by
  have e : mm (mm x wd) w s n = part x wd w 0 s n + part x wd w 1 s n := sum_half fun l => mm x wd s l * w l n
  have hp : p = 0 ∧ q = 1 ∨ p = 1 ∧ q = 0 := by omega
  rcases hp with ⟨rfl, rfl⟩ | ⟨rfl, rfl⟩
  · exact e.symm
  · rw [add_comm]; exact e.symm

end Cert.MlaProof

end
-- ==== Proof.KernelValue.lean ====
/-
# What the kernel computes, over the extended reals

Each payload of the kernel read entry by entry: casts between floats are the identity, a product accumulated into zero
is the sum over the contracted coordinate, a slice reads at a shifted column. So each device's row of the result is
`mla` of that batch row (`res_eq`), once the two devices that share the row hold the two halves of the latent weights.
-/
module

public import proofs.«01_k».proof.Proof.Spec
public import proofs.«01_k».proof.Proof.Math
public import Idealize.ShloMosaic.Lib.MatmulPlain
public import Idealize.ShloMosaic.Lib.ValueIdx
public import Idealize.ShloMosaic.Lib.ValueIdxCoords
public import Idealize.ShloMosaic.Lib.ValueLayout
public import Idealize.ShloMosaic.Lib.ValueLayoutCasts

@[expose] public section

noncomputable section

namespace Cert.MlaProof

open Cert.KernelIdeal Cert.KernelIdeal.Gen
open Idealize.ShloMosaic Idealize.ShloMosaic.ValueIdx
open Idealize.ShloMosaic.TcCoe
open scoped BigOperators

/-! ## Products, casts and slices as matrices -/

section Generic
variable {a b k : ℕ} {φ φ₁ φ₂ : FTy}

theorem arr2_matmul (D : DotDims ⟨2, ![a, k]⟩ ⟨2, ![k, b]⟩ ⟨2, ![a, b]⟩) (hD : D = DotDims.plain a k b)
    (A : FVec Ideal ⟨2, ![a, k]⟩ φ₁) (B : FVec Ideal ⟨2, ![k, b]⟩ φ₂) :
    arr2 (matmul D none A B (constant ⟨2, ![a, b]⟩ .f32 0x00000000#32)) = mm (arr2 A) (arr2 B) := by
  subst hD
  funext r c
  refine (Ideal.matmul_plain_apply none A B _ r c).trans ?_
  rw [constant_apply, Ideal.ofBits_zero_f32, zero_add]
  rfl

theorem arr2_matmul_t (D : DotDims ⟨2, ![a, k]⟩ ⟨2, ![b, k]⟩ ⟨2, ![a, b]⟩) (hD : D = DotDims.transposedRhs a k b)
    (A : FVec Ideal ⟨2, ![a, k]⟩ φ₁) (B : FVec Ideal ⟨2, ![b, k]⟩ φ₂) (r : Fin a) (c : Fin b) :
    arr2 (matmul D none A B (constant ⟨2, ![a, b]⟩ .f32 0x00000000#32)) r c = ∑ l, arr2 A r l * arr2 B c l := by
  subst hD
  refine (Ideal.matmul_transposedRhs_apply none A B _ r c).trans ?_
  rw [constant_apply, Ideal.ofBits_zero_f32, zero_add]
  rfl

theorem arr2_slice {n : ℕ} (X : (⟨2, ![a, n]⟩ : Shape).Idx → EReal) (o : ℕ) (h : (⟨2, ![a, n]⟩ : Shape).Slices ![0, o] ⟨2, ![a, b]⟩)
    (r : Fin a) (c : Fin b) (j : Fin n) (hj : j.val = o + c.val) : arr2 (extractStridedSlice ⟨2, ![a, b]⟩ ![0, o] X h) r c = arr2 X r j :=
  slice2_axis1_apply o X h r c j hj

end Generic

variable (m : (ℓ : Loc nD τ sig) → Buf (Elt Ideal) ℓ) (ρ : Dev nD → PrngReg)

/-- The batch row a device works on, and the half of the latent dimension it holds. -/
def yOf (c : Dev nD) : Fin 2 := ⟨c.val % 2, Nat.mod_lt _ (by decide)⟩
def pOf (c : Dev nD) : Fin 2 := ⟨c.val / 2, by have := c.isLt; change c.val < 4 at this; omega⟩

theorem yOf_xp (c : Dev nD) : yOf (xp c) = yOf c := by revert c; decide
theorem pOf_xp (c : Dev nD) : (pOf c).val + (pOf (xp c)).val = 1 := by revert c; decide
theorem k0_off1_at (c : Dev nD) : k0_off1 c = ![c.val % 2, 0, 0] := k0_off1_eq c

/-! ## Before the heads -/

theorem xRow_eq (c : Dev nD) : arr2 (k0_pay1 (xRow m ρ c)) = arr3 (xA m ρ c) (yOf c) := by
  funext s j
  show k0_pay1 (xRow m ρ c) (ix2 s j) = _
  unfold k0_pay1
  refine (shapeCast_1ab_ab_apply _ shapeCasts_S1x256x1024_S256x1024 s j).trans ?_
  refine extractStridedSlice_apply _ _ _ _ (ix3 (yOf c) s j) fun ax => ?_
  rw [k0_off1_at]
  match ax with
  | ⟨0, _⟩ => exact (Nat.add_zero _).symm
  | ⟨1, _⟩ => exact (Nat.zero_add _).symm
  | ⟨2, _⟩ => exact (Nat.zero_add _).symm

theorem lat_eq (c : Dev nD) : arr2 (lat m ρ c) = mm (arr3 (xA m ρ c) (yOf c)) (arr2 (wDkv m ρ c)) := by
  rw [← xRow_eq]
  unfold lat k0_pay2
  rw [shapeCast_self]
  exact arr2_matmul _ rfl _ _

theorem keys_eq (c : Dev nD) : arr2 (k0_pay4 (k0_pay3 (xRow m ρ c) (wDkv m ρ c) (wUk m ρ c))) = mm (arr2 (lat m ρ c)) (arr2 (wUk m ρ c)) := by
  unfold k0_pay4 k0_pay3
  rw [shapeCast_self, shapeCast_self]
  exact arr2_matmul _ rfl _ _

theorem values_eq (c : Dev nD) : arr2 (k0_pay5 (lat m ρ c) (wUv m ρ c)) = mm (arr2 (lat m ρ c)) (arr2 (wUv m ρ c)) := by
  unfold k0_pay5
  dsimp only
  rw [shapeCast_self, shapeCast_self]
  exact arr2_matmul _ rfl _ _

theorem q_eq (c : Dev nD) : arr2 (qP m ρ c) = mm (arr3 (xA m ρ c) (yOf c)) (arr2 (wQ m ρ c)) := by
  rw [← xRow_eq]
  unfold qP k0_pay7 k0_pay6
  rw [shapeCast_self]
  exact arr2_matmul _ rfl _ _

theorem qr_eq (c : Dev nD) : arr2 (qrP m ρ c) = mm (arr3 (xA m ρ c) (yOf c)) (arr2 (wQr m ρ c)) := by
  rw [← xRow_eq]
  unfold qrP k0_pay8
  rw [shapeCast_self]
  exact arr2_matmul _ rfl _ _

theorem kr_eq (c : Dev nD) : arr2 (krP m ρ c) = mm (arr3 (xA m ρ c) (yOf c)) (arr2 (wKr m ρ c)) := by
  rw [← xRow_eq]
  unfold krP k0_pay9
  rw [shapeCast_self]
  exact arr2_matmul _ rfl _ _

/-! ## Keys and values, both devices' parts added -/

theorem arr2_sides_left {n N : ℕ} (hN : N = n + n) (A B : (⟨2, ![256, n]⟩ : Shape).Idx → EReal) (s : Fin 256) (j : Fin n) (i : Fin N) (h : i.val = j.val) :
    arr2 (sides hN A B) s i = arr2 A s j := by
  have hi : i.val < n := h ▸ j.isLt
  refine (dif_pos hi).trans (congrArg A ?_)
  exact congrArg (ix2 s) (Fin.ext h)

theorem arr2_sides_right {n N : ℕ} (hN : N = n + n) (A B : (⟨2, ![256, n]⟩ : Shape).Idx → EReal) (s : Fin 256) (j : Fin n) (i : Fin N) (h : i.val = n + j.val) :
    arr2 (sides hN A B) s i = arr2 B s j := by
  have hi : ¬i.val < n := by omega
  refine (dif_neg hi).trans (congrArg B ?_)
  exact congrArg (ix2 s) (Fin.ext (by show i.val - n = j.val; omega))

/-- The keys and the values a row of devices arrives at. -/
def keyM (c : Dev nD) : Mat 256 1024 := fun s n => mm (arr2 (lat m ρ c)) (arr2 (wUk m ρ c)) s n + mm (arr2 (lat m ρ (xp c))) (arr2 (wUk m ρ (xp c))) s n
def valM (c : Dev nD) : Mat 256 1024 := fun s n => mm (arr2 (lat m ρ c)) (arr2 (wUv m ρ c)) s n + mm (arr2 (lat m ρ (xp c))) (arr2 (wUv m ρ (xp c))) s n

theorem kv_at (c : Dev nD) (o : ℕ) (h : o + 256 ≤ 2048) (s : Fin 256) (j : Fin 256) (i : Fin 2048) (hi : i.val = o + j.val) :
    arr2 (kv m ρ c o h) s j = arr2 (XS m ρ c) s i + arr2 (XS m ρ (xp c)) s i := by
  have hs : S256x2048.Slices ![0, o] S256x256 := ⟨rfl, fun a => by
    fin_cases a
    · show 0 + 256 ≤ 256; omega
    · exact h⟩
  exact congrArg₂ (· + ·) (arr2_slice (XS m ρ c) o hs s j i hi) (arr2_slice (XS m ρ (xp c)) o hs s j i hi)

theorem XS_keys (c : Dev nD) (s : Fin 256) (n : Fin 1024) (i : Fin 2048) (hi : i.val = n.val) :
    arr2 (XS m ρ c) s i = mm (arr2 (lat m ρ c)) (arr2 (wUk m ρ c)) s n :=
  (arr2_sides_left rfl _ _ s n i hi).trans (congrFun (congrFun (keys_eq m ρ c) s) n)

theorem XS_values (c : Dev nD) (s : Fin 256) (n : Fin 1024) (i : Fin 2048) (hi : i.val = 1024 + n.val) :
    arr2 (XS m ρ c) s i = mm (arr2 (lat m ρ c)) (arr2 (wUv m ρ c)) s n :=
  (arr2_sides_right rfl _ _ s n i hi).trans (congrFun (congrFun (values_eq m ρ c) s) n)

/-- Head `h`'s column `d` of the keys, read out of its four-head block. -/
theorem key_at (c : Dev nD) (h : Fin 16) (t : Fin 256) (d : Fin 64) :
    arr2 (extractStridedSlice S256x64 ![0, 64 * (h.val % 4)] (kv m ρ c (256 * (h.val / 4)) (kOff_le h)) (slices_kv h)) t d = keyM m ρ c t (colH h d) := by
  have e : (⟨64 * (h.val % 4) + d.val, by omega⟩ : Fin 256).val = 64 * (h.val % 4) + d.val := rfl
  have e' : (⟨64 * h.val + d.val, by omega⟩ : Fin 2048).val = 256 * (h.val / 4) + (64 * (h.val % 4) + d.val) := by
    show 64 * h.val + d.val = _
    omega
  refine (arr2_slice _ _ (slices_kv h) t d _ e).trans ((kv_at m ρ c _ _ t _ _ e').trans ?_)
  exact congrArg₂ (· + ·) (XS_keys m ρ c t (colH h d) _ rfl) (XS_keys m ρ (xp c) t (colH h d) _ rfl)

theorem value_at (c : Dev nD) (h : Fin 16) (t : Fin 256) (d : Fin 64) :
    arr2 (extractStridedSlice S256x64 ![0, 64 * (h.val % 4)] (kv m ρ c (1024 + 256 * (h.val / 4)) (vOff_le h)) (slices_kv h)) t d = valM m ρ c t (colH h d) := by
  have e : (⟨64 * (h.val % 4) + d.val, by omega⟩ : Fin 256).val = 64 * (h.val % 4) + d.val := rfl
  have e' : (⟨1024 + (64 * h.val + d.val), by omega⟩ : Fin 2048).val = 1024 + 256 * (h.val / 4) + (64 * (h.val % 4) + d.val) := by
    show 1024 + (64 * h.val + d.val) = _
    omega
  refine (arr2_slice _ _ (slices_kv h) t d _ e).trans ((kv_at m ρ c _ _ t _ _ e').trans ?_)
  exact congrArg₂ (· + ·) (XS_values m ρ c t (colH h d) _ rfl) (XS_values m ρ (xp c) t (colH h d) _ rfl)

/-! ## One head -/

theorem scale_eq : (Named.named κ "scale" 0x3DD105EC#32 : Ideal .f32) = (((Real.sqrt 96)⁻¹ : ℝ) : EReal) :=
  IdealRules.named_const.ideal_named_scalar _ _ _ _ rfl

theorem soft_eq (l : FVec Ideal S256x256 .f32) : arr2 (soft l) = softM (arr2 l) := by
  have hcol : ∀ (v : FVec Ideal S256 .f32) (s t : Fin 256),
      broadcastTo S256x256 (shapeCast S256x1 v shapeCasts_S256_S256x1) broadcasts_S256x1_S256x256 (ix2 s t) = v (ix1 s) := fun v s t => by
    refine (broadcastTo_apply _ _ _ (ix2 s (0 : Fin 1)) fun ax => ?_).trans (shapeCast_a_a1_apply v _ s 0)
    match ax with
    | ⟨0, _⟩ => rfl
    | ⟨1, _⟩ => rfl
  have hmax : ∀ s : Fin 256, multiReduction .maximumf [1] S256 l 0xFF800000#32 reduces_S256x256_S256 (.inl rfl) rfl (ix1 s) = rowMax (arr2 l) s := fun s => by
    refine (Ideal.multiReduction_maximumf_single l _ reduces_S256x256_S256 _ _ (ix1 s)).trans ?_
    unfold rowMax
    refine congrArg (Finset.fold max _ · Finset.univ) (funext fun t => congrArg l ?_)
    funext ax
    match ax with
    | ⟨0, _⟩ => rfl
    | ⟨1, _⟩ => rfl
  have hexp : ∀ s t : Fin 256, exp (subf l (broadcastTo S256x256 (shapeCast S256x1
      (multiReduction .maximumf [1] S256 l 0xFF800000#32 reduces_S256x256_S256 (.inl rfl) rfl) shapeCasts_S256_S256x1) broadcasts_S256x1_S256x256)) (ix2 s t)
      = expM (arr2 l) s t := fun s t => by
    show Ideal.exp (l (ix2 s t) - _) = Ideal.exp (l (ix2 s t) - _)
    rw [hcol, hmax]
  funext s t
  show Ideal.div _ _ = Ideal.div _ _
  rw [hcol, hexp]
  refine congrArg (Ideal.div _) ?_
  refine (Ideal.multiReduction_add_single _ _ reduces_S256x256_S256 _ _ (ix1 s)).trans (Finset.sum_congr rfl fun u _ => ?_)
  refine Eq.trans (congrArg _ ?_) (hexp s u)
  funext ax
  match ax with
  | ⟨0, _⟩ => rfl
  | ⟨1, _⟩ => rfl

theorem HD_at (c : Dev nD) (h : Fin 16) (s : Fin 256) (d : Fin 64) :
    arr2 (HD m ρ c h) s d = ∑ t, softM (scaled (scoreM (arr2 (qP m ρ c)) (arr2 (qrP m ρ c)) (arr2 (krP m ρ c)) (keyM m ρ c) h)) s t * valM m ρ c t (colH h d) := by
  unfold HD headOut
  rw [shapeCast_self]
  refine (congrFun (congrFun (arr2_matmul dot_S256x256_S256x64_S256x64_1_0_0_1_n_n rfl _ _) s) d).trans ?_
  refine Finset.sum_congr rfl fun t _ => congrArg₂ (· * ·) ?_ (value_at m ρ c h t d)
  refine (congrFun (congrFun (soft_eq _) s) t).trans ?_
  refine congrArg (fun l => softM l s t) ?_
  funext s t
  refine congrArg₂ (· * ·) ?_ scale_eq
  refine congrArg₂ (· + ·) ((arr2_matmul_t dot_S256x64_S256x64_S256x256_1_1_0_0_n_n rfl _ _ s t).trans (Finset.sum_congr rfl fun d _ => congrArg₂ (· * ·) ?_ (key_at m ρ c h t d)))
    ((arr2_matmul_t dot_S256x32_S256x32_S256x256_1_1_0_0_n_n rfl _ _ s t).trans (Finset.sum_congr rfl fun r _ => congrArg₂ (· * ·) ?_ rfl))
  · exact arr2_slice (qP m ρ c) _ (slices_q h) s d (colH h d) rfl
  · exact arr2_slice (qrP m ρ c) _ (slices_qr h) s r (colR h r) rfl

theorem OB_eq (c : Dev nD) : arr2 (OB m ρ c) = attend (arr2 (qP m ρ c)) (arr2 (qrP m ρ c)) (arr2 (krP m ρ c)) (keyM m ρ c) (valM m ρ c) := by
  funext s n
  refine (HD_at m ρ c (headOf n) s (laneOf n)).trans ?_
  rw [colH_headOf]
  rfl

/-! ## The result -/

/-- The device's row of the result. -/
def resM (c : Dev nD) : Mat 256 1024 := mm (arr2 (OB m ρ c)) (arr2 (wO m ρ c))

theorem resL_at (c : Dev nD) (s : Fin 256) (j : Fin 512) (n : Fin 1024) (hn : n.val = j.val) : arr2 (resL m ρ c) s j = resM m ρ c s n := by
  unfold resL k0_pay49 k0_pay10
  rw [shapeCast_self]
  refine (congrFun (congrFun (arr2_matmul dot_S256x1024_S1024x512_S256x512_1_0_0_1_n_n rfl _ _) s) j).trans ?_
  exact Finset.sum_congr rfl fun l _ => congrArg (_ * ·) (arr2_slice (wO m ρ c) 0 _ l j n (by omega))

theorem resR_at (c : Dev nD) (s : Fin 256) (j : Fin 512) (n : Fin 1024) (hn : n.val = 512 + j.val) : arr2 (resR m ρ c) s j = resM m ρ c s n := by
  unfold resR k0_pay51 k0_pay10
  rw [shapeCast_self]
  refine (congrFun (congrFun (arr2_matmul dot_S256x1024_S1024x512_S256x512_1_0_0_1_n_n rfl _ _) s) j).trans ?_
  exact Finset.sum_congr rfl fun l _ => congrArg (_ * ·) (arr2_slice (wO m ρ c) 512 _ l j n hn)

theorem res_sides (c : Dev nD) : arr2 (sides (n := 512) rfl (resL m ρ c) (resR m ρ c)) = resM m ρ c := by
  funext s n
  by_cases h : n.val < 512
  · exact (arr2_sides_left rfl _ _ s ⟨n.val, h⟩ n rfl).trans (resL_at m ρ c s _ n rfl)
  · have e : n.val = 512 + (⟨n.val - 512, by omega⟩ : Fin 512).val := by show n.val = 512 + (n.val - 512); omega
    exact (arr2_sides_right rfl _ _ s _ n e).trans (resR_at m ρ c s _ n e)

/-- What travels to the other batch row's device is the row itself. -/
theorem YS_eq (c : Dev nD) : arr2 (YS m ρ c) = resM m ρ c := by
  rw [← res_sides]
  unfold YS k0_pay50 k0_pay53 k0_pay52
  dsimp only
  rw [shapeCast_self, shapeCast_self]
  rfl

/-- So each device ends with both rows: the one it worked on, and its neighbour's. -/
theorem OUT_at (c : Dev nD) (y : Fin 2) (s : Fin 256) (n : Fin 1024) :
    OUT m ρ c (ix3 y s n) = if y = yOf c then resM m ρ c s n else resM m ρ (yp c) s n := by
  by_cases h : y = yOf c
  · rw [if_pos h]
    exact (if_pos (congrArg Fin.val h)).trans (congrFun (congrFun (res_sides m ρ c) s) n)
  · rw [if_neg h]
    exact (if_neg fun e => h (Fin.ext e)).trans (congrFun (congrFun (YS_eq m ρ (yp c)) s) n)

/-! ## With the operands of the whole problem -/

section Whole
variable (x : (⟨3, ![2, 256, 1024]⟩ : Shape).Idx → EReal) (wd : Mat 1024 128) (wk wv : Mat 128 1024) (wq : Mat 1024 1024) (wqr : Mat 1024 512)
  (wkr : Mat 1024 32) (wo : Mat 1024 1024)

/-- Every device holds its part of the whole problem's operands. -/
structure Holds : Prop where
  x : ∀ c, xA m ρ c = x
  wd : ∀ c j l, arr2 (wDkv m ρ c) j l = wd j (half (pOf c) l)
  wk : ∀ c l n, arr2 (wUk m ρ c) l n = wk (half (pOf c) l) n
  wv : ∀ c l n, arr2 (wUv m ρ c) l n = wv (half (pOf c) l) n
  wq : ∀ c, arr2 (wQ m ρ c) = wq
  wqr : ∀ c, arr2 (wQr m ρ c) = wqr
  wkr : ∀ c, arr2 (wKr m ρ c) = wkr
  wo : ∀ c, arr2 (wO m ρ c) = wo

variable {m ρ x wd wk wv wq wqr wkr wo}

theorem key_whole (H : Holds m ρ x wd wk wv wq wqr wkr wo) (c : Dev nD) : keyM m ρ c = mm (mm (arr3 x (yOf c)) wd) wk := by
  have hp : ∀ d : Dev nD, mm (arr2 (lat m ρ d)) (arr2 (wUk m ρ d)) = part (arr3 x (yOf d)) wd wk (pOf d) := fun d => by
    rw [lat_eq, H.x]
    exact congrArg₂ mm (congrArg (mm _) (funext fun j => funext fun l => H.wd d j l)) (funext fun l => funext fun n => H.wk d l n)
  funext s n
  unfold keyM
  rw [hp, hp, yOf_xp]
  exact parts_add _ _ _ _ _ (pOf_xp c) s n

theorem val_whole (H : Holds m ρ x wd wk wv wq wqr wkr wo) (c : Dev nD) : valM m ρ c = mm (mm (arr3 x (yOf c)) wd) wv := by
  have hp : ∀ d : Dev nD, mm (arr2 (lat m ρ d)) (arr2 (wUv m ρ d)) = part (arr3 x (yOf d)) wd wv (pOf d) := fun d => by
    rw [lat_eq, H.x]
    exact congrArg₂ mm (congrArg (mm _) (funext fun j => funext fun l => H.wd d j l)) (funext fun l => funext fun n => H.wv d l n)
  funext s n
  unfold valM
  rw [hp, hp, yOf_xp]
  exact parts_add _ _ _ _ _ (pOf_xp c) s n

/-- A device's row of the result is the layer of that batch row. -/
theorem res_eq (H : Holds m ρ x wd wk wv wq wqr wkr wo) (c : Dev nD) : resM m ρ c = mla (arr3 x (yOf c)) wd wk wv wq wqr wkr wo := by
  unfold resM mla
  rw [OB_eq, q_eq, qr_eq, kr_eq, key_whole H, val_whole H, H.x, H.wq, H.wqr, H.wkr, H.wo]

theorem yOf_yp (c : Dev nD) (y : Fin 2) (h : y ≠ yOf c) : yOf (yp c) = y := by revert c y; decide

/-- Every device ends with the layer of both batch rows. -/
theorem OUT_eq (H : Holds m ρ x wd wk wv wq wqr wkr wo) (c : Dev nD) (y : Fin 2) (s : Fin 256) (n : Fin 1024) :
    OUT m ρ c (ix3 y s n) = mla (arr3 x y) wd wk wv wq wqr wkr wo s n := by
  rw [OUT_at, res_eq H, res_eq H]
  by_cases h : y = yOf c
  · rw [if_pos h, h]
  · rw [if_neg h, yOf_yp c y h]

end Whole

end Cert.MlaProof

end
-- ==== Proof.RefValue.lean ====
/-
# What the reference computes, over the extended reals

The reference keeps the batch rows and the heads as axes of one array. Each of its operations is read here at one batch
row: the products with weights are products of matrices, the reshape to heads reads head `h`'s columns, and the
quotient by the root of 96 is the product with its reciprocal. So its result, row by row, is `mla` (`ref_eq`).
-/
module

public import proofs.«01_k».proof.Proof.Gen.ReferenceIdeal.Run
public import proofs.«01_k».proof.Proof.Math
public import Idealize.ShloMosaic.Lib.ValueIdx
public import Idealize.ShloMosaic.Lib.ValueIdxCoords
public import Idealize.ShloMosaic.Lib.IdealHost
public import Idealize.ShloMosaic.Lib.Pipeline.Value

@[expose] public section

noncomputable section

namespace Cert.MlaRef

open Cert.MlaProof
open Cert.ReferenceIdeal Cert.ReferenceIdeal.Gen Cert.ReferenceIdeal.Value
open Idealize.ShloMosaic Idealize.ShloMosaic.ValueIdx Idealize.ShloMosaic.TcCoe
open scoped BigOperators

/-! ## Products -/

/-- A product with one contracted coordinate, by what it reads of its operands at that coordinate. -/
theorem dot_at {sl sr so : Shape} {φ₁ φ₂ : FTy} (D : DotDims sl sr so) (n : ℕ) (hr : D.contr.rank = 1)
    (hs : D.contr.size ⟨0, by omega⟩ = n) (l : FVec Ideal sl φ₁) (r : FVec Ideal sr φ₂) (j : so.Idx) (li : Fin n → sl.Idx) (ri : Fin n → sr.Idx)
    (hl : ∀ k, D.lhsIdx j ((contrEquiv1 D n hr hs).symm k) = li k) (hri : ∀ k, D.rhsIdx j ((contrEquiv1 D n hr hs).symm k) = ri k) :
    (Host.dotGeneral D none l r : FVec Ideal so .f32) j = ∑ k, l (li k) * r (ri k) := by
  refine (Ideal.dotGeneral_apply D none _ l r j).trans ?_
  refine (Equiv.sum_comp (contrEquiv1 D n hr hs).symm _).symm.trans (Finset.sum_congr rfl fun k _ => ?_)
  rw [hl, hri]

section Dots
variable {B S H K N M : ℕ}

/-- Every batch row times one matrix. -/
def rowsDims (wf : DotDims.WF ⟨3, ![B, S, K]⟩ ⟨2, ![K, N]⟩ ⟨3, ![B, S, N]⟩ [2] [0] [0, 1] [1] [] []) :
    DotDims ⟨3, ![B, S, K]⟩ ⟨2, ![K, N]⟩ ⟨3, ![B, S, N]⟩ := ⟨[2], [0], [0, 1], [1], [], [], wf⟩

theorem rows_dot (wf : DotDims.WF ⟨3, ![B, S, K]⟩ ⟨2, ![K, N]⟩ ⟨3, ![B, S, N]⟩ [2] [0] [0, 1] [1] [] [])
    (l : FVec Ideal ⟨3, ![B, S, K]⟩ .f32) (r : FVec Ideal ⟨2, ![K, N]⟩ .f32) (b : Fin B) :
    arr3 (Host.dotGeneral (rowsDims wf) none l r : FVec Ideal ⟨3, ![B, S, N]⟩ .f32) b = mm (arr3 l b) (arr2 r) := by
  funext s n
  refine dot_at (rowsDims wf) K rfl rfl l r (ix3 b s n) (fun k => ix3 b s k) (fun k => ix2 k n) (fun k => ?_) fun k => ?_
  · funext a
    apply Fin.ext
    match a with
    | ⟨0, _⟩ => rfl
    | ⟨1, _⟩ => rfl
    | ⟨2, _⟩ => exact contrEquiv1_symm_val (rowsDims wf) K rfl rfl k
  · funext a
    apply Fin.ext
    match a with
    | ⟨0, _⟩ => exact contrEquiv1_symm_val (rowsDims wf) K rfl rfl k
    | ⟨1, _⟩ => rfl

/-- Queries against keys, per batch row and head. -/
def scoreDims (wf : DotDims.WF ⟨4, ![B, S, H, K]⟩ ⟨4, ![B, S, H, K]⟩ ⟨4, ![B, H, S, S]⟩ [3] [3] [1] [1] [0, 2] [0, 2]) :
    DotDims ⟨4, ![B, S, H, K]⟩ ⟨4, ![B, S, H, K]⟩ ⟨4, ![B, H, S, S]⟩ := ⟨[3], [3], [1], [1], [0, 2], [0, 2], wf⟩

theorem score_dot (wf : DotDims.WF ⟨4, ![B, S, H, K]⟩ ⟨4, ![B, S, H, K]⟩ ⟨4, ![B, H, S, S]⟩ [3] [3] [1] [1] [0, 2] [0, 2])
    (l r : FVec Ideal ⟨4, ![B, S, H, K]⟩ .f32) (b : Fin B) (h : Fin H) (s t : Fin S) :
    (Host.dotGeneral (scoreDims wf) none l r : FVec Ideal ⟨4, ![B, H, S, S]⟩ .f32) (ix4 b h s t) = ∑ k, l (ix4 b s h k) * r (ix4 b t h k) := by
  refine dot_at (scoreDims wf) K rfl rfl l r (ix4 b h s t) (fun k => ix4 b s h k) (fun k => ix4 b t h k) (fun k => ?_) fun k => ?_
  · funext a
    apply Fin.ext
    match a with
    | ⟨0, _⟩ => rfl
    | ⟨1, _⟩ => rfl
    | ⟨2, _⟩ => rfl
    | ⟨3, _⟩ => exact contrEquiv1_symm_val (scoreDims wf) K rfl rfl k
  · funext a
    apply Fin.ext
    match a with
    | ⟨0, _⟩ => rfl
    | ⟨1, _⟩ => rfl
    | ⟨2, _⟩ => rfl
    | ⟨3, _⟩ => exact contrEquiv1_symm_val (scoreDims wf) K rfl rfl k

/-- Values against the softmax's weights, per batch row and head. -/
def mixDims (wf : DotDims.WF ⟨4, ![B, S, H, K]⟩ ⟨4, ![B, H, M, S]⟩ ⟨4, ![B, H, K, M]⟩ [1] [3] [3] [2] [0, 2] [0, 1]) :
    DotDims ⟨4, ![B, S, H, K]⟩ ⟨4, ![B, H, M, S]⟩ ⟨4, ![B, H, K, M]⟩ := ⟨[1], [3], [3], [2], [0, 2], [0, 1], wf⟩

theorem mix_dot (wf : DotDims.WF ⟨4, ![B, S, H, K]⟩ ⟨4, ![B, H, M, S]⟩ ⟨4, ![B, H, K, M]⟩ [1] [3] [3] [2] [0, 2] [0, 1])
    (l : FVec Ideal ⟨4, ![B, S, H, K]⟩ .f32) (r : FVec Ideal ⟨4, ![B, H, M, S]⟩ .f32) (b : Fin B) (h : Fin H) (d : Fin K) (s : Fin M) :
    (Host.dotGeneral (mixDims wf) none l r : FVec Ideal ⟨4, ![B, H, K, M]⟩ .f32) (ix4 b h d s) = ∑ t, l (ix4 b t h d) * r (ix4 b h s t) := by
  refine dot_at (mixDims wf) S rfl rfl l r (ix4 b h d s) (fun t => ix4 b t h d) (fun t => ix4 b h s t) (fun k => ?_) fun k => ?_
  · funext a
    apply Fin.ext
    match a with
    | ⟨0, _⟩ => rfl
    | ⟨1, _⟩ => exact contrEquiv1_symm_val (mixDims wf) S rfl rfl k
    | ⟨2, _⟩ => rfl
    | ⟨3, _⟩ => rfl
  · funext a
    apply Fin.ext
    match a with
    | ⟨0, _⟩ => rfl
    | ⟨1, _⟩ => rfl
    | ⟨2, _⟩ => rfl
    | ⟨3, _⟩ => exact contrEquiv1_symm_val (mixDims wf) S rfl rfl k

end Dots

/-! ## Heads -/

theorem heads_at (X : FVec Ideal S2x256x1024 .f32) (b : Fin 2) (s : Fin 256) (h : Fin 16) (d : Fin 64) :
    shapeCast S2x256x16x64 X shapeCasts_S2x256x1024_S2x256x16x64 (ix4 b s h d) = arr3 X b s (colH h d) := by
  refine shapeCast_apply X _ _ (ix3 b s (colH h d)) ?_
  rw [Shape.rowMajor_val_three, Shape.rowMajor_val_four]
  show (b.val * 256 + s.val) * 1024 + (64 * h.val + d.val) = ((b.val * 256 + s.val) * 16 + h.val) * 64 + d.val
  omega

theorem rotary_at (X : FVec Ideal S2x256x512 .f32) (b : Fin 2) (s : Fin 256) (h : Fin 16) (r : Fin 32) :
    shapeCast S2x256x16x32 X shapeCasts_S2x256x512_S2x256x16x32 (ix4 b s h r) = arr3 X b s (colR h r) := by
  refine shapeCast_apply X _ _ (ix3 b s (colR h r)) ?_
  rw [Shape.rowMajor_val_three, Shape.rowMajor_val_four]
  show (b.val * 256 + s.val) * 512 + (32 * h.val + r.val) = ((b.val * 256 + s.val) * 16 + h.val) * 32 + r.val
  omega

theorem shared_at (X : FVec Ideal S2x256x32 .f32) (b : Fin 2) (s : Fin 256) (h : Fin 16) (r : Fin 32) :
    broadcastInDim S2x256x16x32 ![0, 1, 2, 3] bcast_S2x256x1x32_S2x256x16x32_0_1_2_3 (shapeCast S2x256x1x32 X shapeCasts_S2x256x32_S2x256x1x32) (ix4 b s h r)
      = arr3 X b s r := by
  refine (broadcastInDim_apply _ _ _ _ (ix4 b s (0 : Fin 1) r) fun a => ?_).trans ?_
  · match a with
    | ⟨0, _⟩ => rfl
    | ⟨1, _⟩ => rfl
    | ⟨2, _⟩ => rfl
    | ⟨3, _⟩ => rfl
  · refine shapeCast_apply X _ _ (ix3 b s r) ?_
    rw [Shape.rowMajor_val_three, Shape.rowMajor_val_four]
    show (b.val * 256 + s.val) * 32 + r.val = ((b.val * 256 + s.val) * 1 + 0) * 32 + r.val
    omega

theorem joined_at (X : FVec Ideal S2x16x64x256 .f32) (b : Fin 2) (s : Fin 256) (n : Fin 1024) :
    shapeCast S2x256x1024 (transpose S2x256x16x64 [0, 3, 1, 2] X transposes_S2x16x64x256_S2x256x16x64_0_3_1_2) shapeCasts_S2x256x16x64_S2x256x1024 (ix3 b s n)
      = X (ix4 b (headOf n) (laneOf n) s) := by
  refine (shapeCast_apply _ _ _ (ix4 b s (headOf n) (laneOf n)) ?_).trans ?_
  · rw [Shape.rowMajor_val_three, Shape.rowMajor_val_four]
    show ((b.val * 256 + s.val) * 16 + n.val / 64) * 64 + n.val % 64 = (b.val * 256 + s.val) * 1024 + n.val
    omega
  · refine transpose_apply _ X _ _ _ fun a => ?_
    match a with
    | ⟨0, _⟩ => rfl
    | ⟨1, _⟩ => rfl
    | ⟨2, _⟩ => rfl
    | ⟨3, _⟩ => rfl

/-! ## The softmax -/

/-- The reference's scaled scores, of its queries, keys, rotary queries and shared rotary keys. -/
def refScores (q k : FVec Ideal S2x256x1024 .f32) (qr : FVec Ideal S2x256x512 .f32) (kr : FVec Ideal S2x256x32 .f32) : FVec Ideal S2x16x256x256 .f32 :=
  Host.divf (addf
      (Host.dotGeneral dot_S2x256x16x64_S2x256x16x64_S2x16x256x256_3_3_1_1_02_02 none (shapeCast _ q shapeCasts_S2x256x1024_S2x256x16x64)
        (shapeCast _ k shapeCasts_S2x256x1024_S2x256x16x64))
      (Host.dotGeneral dot_S2x256x16x32_S2x256x16x32_S2x16x256x256_3_3_1_1_02_02 none (shapeCast _ qr shapeCasts_S2x256x512_S2x256x16x32)
        (broadcastInDim S2x256x16x32 ![0, 1, 2, 3] bcast_S2x256x1x32_S2x256x16x32_0_1_2_3 (shapeCast _ kr shapeCasts_S2x256x32_S2x256x1x32))))
    (broadcastInDim S2x16x256x256 ![] bcast_S_S2x16x256x256 (Host.sqrt (constant S_ .f32 0x42C00000#32)))

/-- A value per row, spread along the row. -/
def spread (v : FVec Ideal S2x16x256 .f32) : FVec Ideal S2x16x256x256 .f32 :=
  broadcastInDim S2x16x256x256 ![0, 1, 2, 3] bcast_S2x16x256x1_S2x16x256x256_0_1_2_3 (broadcastInDim S2x16x256x1 ![0, 1, 2] bcast_S2x16x256_S2x16x256x1_0_1_2 v)

def refExp (l : FVec Ideal S2x16x256x256 .f32) : FVec Ideal S2x16x256x256 .f32 :=
  Host.exp (subf l (spread (Host.reduce FloatOps.maximumf l (constant S_ .f32 0xFF800000#32) reducesTo_S2x16x256x256_S2x16x256_d3 h_S_)))

def refSoft (l : FVec Ideal S2x16x256x256 .f32) : FVec Ideal S2x16x256x256 .f32 :=
  Host.divf (refExp l) (spread (Host.reduceAdd (refExp l) (constant S_ .f32 0x00000000#32) reducesTo_S2x16x256x256_S2x16x256_d3 h_S_))

/-- The reference's attention, its heads joined. -/
def refAttend (q k v : FVec Ideal S2x256x1024 .f32) (qr : FVec Ideal S2x256x512 .f32) (kr : FVec Ideal S2x256x32 .f32) : FVec Ideal S2x256x1024 .f32 :=
  shapeCast S2x256x1024 (transpose S2x256x16x64 [0, 3, 1, 2]
    (Host.dotGeneral dot_S2x256x16x64_S2x16x256x256_S2x16x64x256_1_3_3_2_02_01 none (shapeCast S2x256x16x64 v shapeCasts_S2x256x1024_S2x256x16x64)
      (refSoft (refScores q k qr kr)) : FVec Ideal S2x16x64x256 .f32) transposes_S2x16x64x256_S2x256x16x64_0_3_1_2) shapeCasts_S2x256x16x64_S2x256x1024

theorem ofBits_96 : Ideal.ofBits .f32 0x42C00000#32 = ((96 : ℝ) : EReal) := by
  simp [Ideal.ofBits, Ideal.ieee, -EReal.coe_mul]
  norm_num

/-- One head's matrix of an array of four axes. -/
def arr4 (X : FVec Ideal S2x16x256x256 .f32) (b : Fin 2) (h : Fin 16) : Mat 256 256 := fun s t => X (ix4 b h s t)

theorem refScores_eq (q k : FVec Ideal S2x256x1024 .f32) (qr : FVec Ideal S2x256x512 .f32) (kr : FVec Ideal S2x256x32 .f32) (b : Fin 2) (h : Fin 16) :
    arr4 (refScores q k qr kr) b h = scaled (scoreM (arr3 q b) (arr3 qr b) (arr3 kr b) (arr3 k b) h) := by
  have hroot : Host.sqrt (constant S_ .f32 0x42C00000#32 : FVec Ideal S_ .f32) ix0 = ((Real.sqrt 96 : ℝ) : EReal) := by
    show Ideal.sqrt (Ideal.ofBits .f32 0x42C00000#32) = _
    rw [ofBits_96, Ideal.sqrt_coe, if_neg (by norm_num)]
  funext s t
  show Ideal.div (_ + _) _ = (_ + _) * _
  rw [broadcastInDim_scalar_apply, hroot, Ideal.div_coe (Real.sqrt_pos.mpr (by norm_num)).ne', one_div]
  refine congrArg (· * (((Real.sqrt 96)⁻¹ : ℝ) : EReal)) (congrArg₂ (· + ·) ?_ ?_)
  · refine (score_dot dot_S2x256x16x64_S2x256x16x64_S2x16x256x256_3_3_1_1_02_02_wf _ _ b h s t).trans (Finset.sum_congr rfl fun d _ => ?_)
    exact congrArg₂ (· * ·) (heads_at q b s h d) (heads_at k b t h d)
  · refine (score_dot dot_S2x256x16x32_S2x256x16x32_S2x16x256x256_3_3_1_1_02_02_wf _ _ b h s t).trans (Finset.sum_congr rfl fun r _ => ?_)
    exact congrArg₂ (· * ·) (rotary_at qr b s h r) (shared_at kr b t h r)

theorem spread_at (v : FVec Ideal S2x16x256 .f32) (b : Fin 2) (h : Fin 16) (s t : Fin 256) : spread v (ix4 b h s t) = v (ix3 b h s) := by
  refine (broadcastInDim_apply _ _ _ _ (ix4 b h s (0 : Fin 1)) fun a => ?_).trans (broadcastInDim_apply _ _ _ _ (ix3 b h s) fun a => ?_)
  · match a with
    | ⟨0, _⟩ => rfl
    | ⟨1, _⟩ => rfl
    | ⟨2, _⟩ => rfl
    | ⟨3, _⟩ => rfl
  · match a with
    | ⟨0, _⟩ => rfl
    | ⟨1, _⟩ => rfl
    | ⟨2, _⟩ => rfl

theorem reduces_row : S2x16x256x256.Reduces [3] S2x16x256 := by decide

theorem lift_row (b : Fin 2) (h : Fin 16) (s t : Fin 256) : reduces_row.lift (ix3 b h s) t = ix4 b h s t := by
  funext a
  match a with
  | ⟨0, _⟩ => rfl
  | ⟨1, _⟩ => rfl
  | ⟨2, _⟩ => rfl
  | ⟨3, _⟩ => rfl

theorem refExp_eq (l : FVec Ideal S2x16x256x256 .f32) (b : Fin 2) (h : Fin 16) : arr4 (refExp l) b h = expM (arr4 l b h) := by
  funext s t
  show Ideal.exp (l (ix4 b h s t) - _) = Ideal.exp (l (ix4 b h s t) - _)
  rw [spread_at]
  refine congrArg (fun y => Ideal.exp (l (ix4 b h s t) - y)) ?_
  refine (Host.reduce_eq_fold_single FloatOps.maximumf l _ reducesTo_S2x16x256x256_S2x16x256_d3 reduces_row h_S_ (ix3 b h s)).trans ?_
  unfold rowMax
  exact congrArg (Finset.fold max _ · Finset.univ) (funext fun u => congrArg l (lift_row b h s u))

theorem refSoft_eq (l : FVec Ideal S2x16x256x256 .f32) (b : Fin 2) (h : Fin 16) : arr4 (refSoft l) b h = softM (arr4 l b h) := by
  funext s t
  show Ideal.div (arr4 (refExp l) b h s t) _ = Ideal.div _ _
  rw [refExp_eq, spread_at]
  refine congrArg (Ideal.div _) ?_
  refine (Ideal.hostReduceAdd_single reducesTo_S2x16x256x256_S2x16x256_d3 reduces_row _ _ (ix3 b h s)).trans ?_
  refine (congrArg₂ (· + ·) Ideal.ofBits_zero_f32 rfl).trans ((zero_add _).trans (Finset.sum_congr rfl fun u _ => ?_))
  refine (congrArg (refExp l) (lift_row b h s u)).trans ?_
  exact congrFun (congrFun (refExp_eq l b h) s) u

theorem refAttend_eq (q k v : FVec Ideal S2x256x1024 .f32) (qr : FVec Ideal S2x256x512 .f32) (kr : FVec Ideal S2x256x32 .f32) (b : Fin 2) :
    arr3 (refAttend q k v qr kr) b = attend (arr3 q b) (arr3 qr b) (arr3 kr b) (arr3 k b) (arr3 v b) := by
  funext s n
  refine (joined_at _ b s n).trans ((mix_dot dot_S2x256x16x64_S2x16x256x256_S2x16x64x256_1_3_3_2_02_01_wf _ _ b (headOf n) (laneOf n) s).trans ?_)
  refine Finset.sum_congr rfl fun t _ => (mul_comm _ _).trans (congrArg₂ (· * ·) ?_ ?_)
  · refine (congrFun (congrFun (refSoft_eq _ b (headOf n)) s) t).trans ?_
    rw [refScores_eq]
  · refine (heads_at v b t (headOf n) (laneOf n)).trans ?_
    rw [colH_headOf]

/-! ## The whole reference -/

variable (m : (ℓ : Loc nD τ sig) → Buf (Elt Ideal) ℓ)

/-- The layer's result as one array, of the reference's arguments. -/
def result (X : FVec Ideal S2x256x1024 .bf16) (wd : FVec Ideal S1024x128 .bf16) (wk wv : FVec Ideal S128x1024 .bf16) (wq : FVec Ideal S1024x1024 .bf16)
    (wqr : FVec Ideal S1024x512 .bf16) (wkr : FVec Ideal S1024x32 .bf16) (wo : FVec Ideal S1024x1024 .bf16) : FVec Ideal S2x256x1024 .f32 :=
  fun i => mla (arr3 X (i 0)) (arr2 wd) (arr2 wk) (arr2 wv) (arr2 wq) (arr2 wqr) (arr2 wkr) (arr2 wo) (i 1) (i 2)

/-- The reference's own term, its attention named. -/
def refTerm (x : FVec Ideal S2x256x1024 .f32) (wd : FVec Ideal S1024x128 .f32) (wk wv : FVec Ideal S128x1024 .f32) (wq : FVec Ideal S1024x1024 .f32)
    (wqr : FVec Ideal S1024x512 .f32) (wkr : FVec Ideal S1024x32 .f32) (wo : FVec Ideal S1024x1024 .f32) : FVec Ideal S2x256x1024 .f32 :=
  Host.dotGeneral dot_S2x256x1024_S1024x1024_S2x256x1024_2_0_01_1_n_n none
    (refAttend (Host.dotGeneral dot_S2x256x1024_S1024x1024_S2x256x1024_2_0_01_1_n_n none x wq)
      (Host.dotGeneral dot_S2x256x128_S128x1024_S2x256x1024_2_0_01_1_n_n none
        (Host.dotGeneral dot_S2x256x1024_S1024x128_S2x256x128_2_0_01_1_n_n none x wd : FVec Ideal S2x256x128 .f32) wk)
      (Host.dotGeneral dot_S2x256x128_S128x1024_S2x256x1024_2_0_01_1_n_n none
        (Host.dotGeneral dot_S2x256x1024_S1024x128_S2x256x128_2_0_01_1_n_n none x wd : FVec Ideal S2x256x128 .f32) wv)
      (Host.dotGeneral dot_S2x256x1024_S1024x512_S2x256x512_2_0_01_1_n_n none x wqr)
      (Host.dotGeneral dot_S2x256x1024_S1024x32_S2x256x32_2_0_01_1_n_n none x wkr)) wo

theorem refTerm_eq (x : FVec Ideal S2x256x1024 .f32) (wd : FVec Ideal S1024x128 .f32) (wk wv : FVec Ideal S128x1024 .f32) (wq : FVec Ideal S1024x1024 .f32)
    (wqr : FVec Ideal S1024x512 .f32) (wkr : FVec Ideal S1024x32 .f32) (wo : FVec Ideal S1024x1024 .f32) (b : Fin 2) :
    arr3 (refTerm x wd wk wv wq wqr wkr wo) b = mla (arr3 x b) (arr2 wd) (arr2 wk) (arr2 wv) (arr2 wq) (arr2 wqr) (arr2 wkr) (arr2 wo) := by
  refine (rows_dot dot_S2x256x1024_S1024x1024_S2x256x1024_2_0_01_1_n_n_wf _ wo b).trans ?_
  unfold mla
  rw [refAttend_eq]
  have hlat : arr3 (Host.dotGeneral dot_S2x256x1024_S1024x128_S2x256x128_2_0_01_1_n_n none x wd : FVec Ideal S2x256x128 .f32) b = mm (arr3 x b) (arr2 wd) :=
    rows_dot dot_S2x256x1024_S1024x128_S2x256x128_2_0_01_1_n_n_wf x wd b
  have hq := rows_dot dot_S2x256x1024_S1024x1024_S2x256x1024_2_0_01_1_n_n_wf x wq b
  have hqr := rows_dot dot_S2x256x1024_S1024x512_S2x256x512_2_0_01_1_n_n_wf x wqr b
  have hkr := rows_dot dot_S2x256x1024_S1024x32_S2x256x32_2_0_01_1_n_n_wf x wkr b
  have hk := (rows_dot dot_S2x256x128_S128x1024_S2x256x1024_2_0_01_1_n_n_wf
    (Host.dotGeneral dot_S2x256x1024_S1024x128_S2x256x128_2_0_01_1_n_n none x wd : FVec Ideal S2x256x128 .f32) wk b).trans (congrArg (mm · (arr2 wk)) hlat)
  have hv := (rows_dot dot_S2x256x128_S128x1024_S2x256x1024_2_0_01_1_n_n_wf
    (Host.dotGeneral dot_S2x256x1024_S1024x128_S2x256x128_2_0_01_1_n_n none x wd : FVec Ideal S2x256x128 .f32) wv b).trans (congrArg (mm · (arr2 wv)) hlat)
  refine congrArg (mm · (arr2 wo)) ?_
  rw [← hq, ← hqr, ← hkr, ← hk, ← hv]
  rfl

set_option maxRecDepth 8192 in
theorem ref_eq (c : Dev nD) : res_main_v38 m c
    = result (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
  have e : res_main_v38 m c
      = refTerm (m ((c : Thread nD τ).loc main_arg0)) (m ((c : Thread nD τ).loc main_arg1)) (m ((c : Thread nD τ).loc main_arg2)) (m ((c : Thread nD τ).loc main_arg3))
        (m ((c : Thread nD τ).loc main_arg4)) (m ((c : Thread nD τ).loc main_arg5)) (m ((c : Thread nD τ).loc main_arg6)) (m ((c : Thread nD τ).loc main_arg7)) := by
    unfold res_main_v38
    rfl
  rw [e]
  funext i
  obtain ⟨b, s, n, rfl⟩ : ∃ b s n, i = ix3 b s n := ⟨i 0, i 1, i 2, eq_ix3 i⟩
  exact congrFun (congrFun (refTerm_eq _ _ _ _ _ _ _ _ b) s) n

end Cert.MlaRef

end
-- ==== Proof.Algebraic.lean ====
/-
# The two programs agree over the extended reals

The kernel's run leaves `OUT` in every device's result array, the reference's run leaves its own term; both are the
layer of the reference's arguments, once each device's arguments are its part of those.
-/
module

public import proofs.«01_k».proof.Defs
public import proofs.«01_k».proof.Proof.Frames
public import proofs.«01_k».proof.Proof.Result
public import proofs.«01_k».proof.Proof.KernelValue
public import proofs.«01_k».proof.Proof.RefValue
public import Idealize.ShloMosaic.Lib.Layout

@[expose] public section

noncomputable section

namespace Cert.MlaProof

open Idealize.ShloMosaic Idealize.ShloMosaic.ValueIdx Idealize.ShloMosaic.TcCoe Idealize.SL.Sem
open Cert.KernelIdeal Cert.KernelIdeal.Gen

/-- A device's block of a matrix cut in two along its columns, by the mesh's first axis. -/
theorem cut_cols (X : (⟨2, ![1024, 128]⟩ : Shape).Idx → EReal) (c : Dev nD) (j : Fin 1024) (l : Fin 64) :
    arr2 (Layout.blockN ⟨2, ![1024, 64]⟩ ⟨2, ![1024, 128]⟩ (Layout.meshBlock [2, 2] ![[], [0]] c) X) j l = arr2 X j (half (pOf c) l) := by
  refine congrArg X (funext fun a => Fin.ext ?_)
  have hp : Layout.meshLin [2, 2] c.val [0] = c.val / 2 := by revert c; decide
  match a with
  | ⟨0, _⟩ =>
    show 0 * 1024 + j.val = j.val
    omega
  | ⟨1, _⟩ =>
    show Layout.meshLin [2, 2] c.val [0] * 64 + l.val = 64 * (c.val / 2) + l.val
    omega

/-- The same along its rows. -/
theorem cut_rows (X : (⟨2, ![128, 1024]⟩ : Shape).Idx → EReal) (c : Dev nD) (l : Fin 64) (n : Fin 1024) :
    arr2 (Layout.blockN ⟨2, ![64, 1024]⟩ ⟨2, ![128, 1024]⟩ (Layout.meshBlock [2, 2] ![[0], []] c) X) l n = arr2 X (half (pOf c) l) n := by
  refine congrArg X (funext fun a => Fin.ext ?_)
  have hp : Layout.meshLin [2, 2] c.val [0] = c.val / 2 := by revert c; decide
  match a with
  | ⟨0, _⟩ =>
    show Layout.meshLin [2, 2] c.val [0] * 64 + l.val = 64 * (c.val / 2) + l.val
    omega
  | ⟨1, _⟩ =>
    show 0 * 1024 + n.val = n.val
    omega

theorem algebraic : Cert.algebraic_KernelIdeal_ReferenceIdeal := by
  intro m g m' g' _ hagree
  refine ⟨Cert.ReferenceIdeal.Value.res_main_v38 m' 0, ?_, ?_⟩
  · refine (θ_run defs _ _).mono (fun r h c => ⟨((h.1 c 8).trans (finalA_out m g c)).trans ?_,
      (h.1 c 0).trans (finalA_in m g c 0 rfl), (h.1 c 1).trans (finalA_in m g c 1 rfl), (h.1 c 2).trans (finalA_in m g c 2 rfl),
      (h.1 c 3).trans (finalA_in m g c 3 rfl), (h.1 c 4).trans (finalA_in m g c 4 rfl), (h.1 c 5).trans (finalA_in m g c 5 rfl),
      (h.1 c 6).trans (finalA_in m g c 6 rfl), (h.1 c 7).trans (finalA_in m g c 7 rfl)⟩) (run_main m g)
    rw [Cert.MlaRef.ref_eq]
    funext i
    obtain ⟨y, s, n, rfl⟩ : ∃ y s n, i = ix3 y s n := ⟨i 0, i 1, i 2, eq_ix3 i⟩
    refine OUT_eq (m := m) (ρ := g) ⟨fun d => (xA_eq m g d).trans (hagree d).1, fun d j l => ?_, fun d l n => ?_, fun d l n => ?_,
      fun d => congrArg arr2 ((wQ_eq m g d).trans (hagree d).2.2.2.2.1), fun d => congrArg arr2 ((wQr_eq m g d).trans (hagree d).2.2.2.2.2.1),
      fun d => congrArg arr2 ((wKr_eq m g d).trans (hagree d).2.2.2.2.2.2.1), fun d => congrArg arr2 ((wO_eq m g d).trans (hagree d).2.2.2.2.2.2.2)⟩ c y s n
    · rw [wDkv_eq, (hagree d).2.1]
      exact cut_cols _ d j l
    · rw [wUk_eq, (hagree d).2.2.1]
      exact cut_rows _ d l n
    · rw [wUv_eq, (hagree d).2.2.2.1]
      exact cut_rows _ d l n
  · exact (θ_run Cert.ReferenceIdeal.defs _ _).mono (fun _ h => h 0) (Cert.ReferenceIdeal.Value.run (F := Ideal) m' g')

end Cert.MlaProof

end
-- ==== Proof.lean ====
/- The certificate: its claims, assembled from the modules under Proof/. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Frames
public import proofs.«01_k».proof.Proof.Algebraic
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  MlaProof.frame_kernel, MlaProof.frame_kernelIdeal, MlaProof.frame_reference, MlaProof.preserves, MlaProof.algebraic⟩

end Cert.Proof

end
